-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v95) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v18_0)) (v1 : (c : Dev Cert.Kernel4Ideal.nD) → Buf (Elt Ideal) ((c.tc : Thread Cert.Kernel4Ideal.nD Cert.Kernel4Ideal.τ).loc Cert.Kernel4Ideal.main_v18_1)) (v2 : (c : Dev Cert.Kernel4Ideal.nD) → Buf (Elt Ideal) ((c.tc : Thread Cert.Kernel4Ideal.nD Cert.Kernel4Ideal.τ).loc Cert.Kernel4Ideal.main_v18_2)) (v3 : (c : Dev Cert.Kernel4Ideal.nD) → Buf (Elt Ideal) ((c.tc : Thread Cert.Kernel4Ideal.nD Cert.Kernel4Ideal.τ).loc Cert.Kernel4Ideal.main_v18_3)) (v4 : (c : Dev Cert.Kernel4Ideal.nD) → Buf (Elt Ideal) ((c.tc : Thread Cert.Kernel4Ideal.nD Cert.Kernel4Ideal.τ).loc Cert.Kernel4Ideal.main_v18_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18_0) = v0 c
          ∧ r.2.mem ((c.tc : Thread Cert.Kernel4Ideal.nD Cert.Kernel4Ideal.τ).loc Cert.Kernel4Ideal.main_v18_1) = v1 c
          ∧ r.2.mem ((c.tc : Thread Cert.Kernel4Ideal.nD Cert.Kernel4Ideal.τ).loc Cert.Kernel4Ideal.main_v18_2) = v2 c
          ∧ r.2.mem ((c.tc : Thread Cert.Kernel4Ideal.nD Cert.Kernel4Ideal.τ).loc Cert.Kernel4Ideal.main_v18_3) = v3 c
          ∧ r.2.mem ((c.tc : Thread Cert.Kernel4Ideal.nD Cert.Kernel4Ideal.τ).loc Cert.Kernel4Ideal.main_v18_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_v17) = v2 c
          ∧ r.2.mem ((c.tc : Thread Cert.Reference4Ideal.nD Cert.Reference4Ideal.τ).loc Cert.Reference4Ideal.main_v18) = v3 c
          ∧ r.2.mem ((c.tc : Thread Cert.Reference4Ideal.nD Cert.Reference4Ideal.τ).loc Cert.Reference4Ideal.main_v29) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Kernel.lean ====
abbrev S17408x1024 : Shape := ⟨2, ![17408, 1024]⟩
abbrev S1024 : Shape := ⟨1, ![1024]⟩
abbrev S1024x1024 : Shape := ⟨2, ![1024, 1024]⟩
abbrev S4x512x2048 : Shape := ⟨3, ![4, 512, 2048]⟩
abbrev S1x1024 : Shape := ⟨2, ![1, 1024]⟩
abbrev S512x1024 : Shape := ⟨2, ![512, 1024]⟩
abbrev S1x256x1024 : Shape := ⟨3, ![1, 256, 1024]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 9
  | .vmem => 11
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S4x512x2048, .f32⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S512x1024, .f32⟩
  | .local _ .vmem, ⟨10, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, arg0.toNat, c1_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S17408x1024 : Shape := ⟨2, ![17408, 1024]⟩
abbrev S1024 : Shape := ⟨1, ![1024]⟩
abbrev S1024x1024 : Shape := ⟨2, ![1024, 1024]⟩
abbrev S4x512x2048 : Shape := ⟨3, ![4, 512, 2048]⟩
abbrev S1x512x1024 : Shape := ⟨3, ![1, 512, 1024]⟩
abbrev S512x1024 : Shape := ⟨2, ![512, 1024]⟩
abbrev S2x256x4x256 : Shape := ⟨4, ![2, 256, 4, 256]⟩
abbrev S16384x1024 : Shape := ⟨2, ![16384, 1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4x256 : Shape := ⟨4, ![2, 8192, 4, 256]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩

abbrev nBuf : Space → Nat
  | .hbm => 57
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S4x512x2048, .f32⟩
  | .hbm, ⟨5, _⟩ => ⟨S1x512x1024, .f32⟩
  | .hbm, ⟨6, _⟩ => ⟨S512x1024, .f32⟩
  | .hbm, ⟨7, _⟩ => ⟨S2x256x4x256, .f32⟩
  | .hbm, ⟨8, _⟩ => ⟨S1x512x1024, .f32⟩
  | .hbm, ⟨9, _⟩ => ⟨S512x1024, .f32⟩
  | .hbm, ⟨10, _⟩ => ⟨S2x256x4x256, .f32⟩
  | .hbm, ⟨11, _⟩ => ⟨S16384x1024, .f32⟩
  | .hbm, ⟨12, _⟩ => ⟨S2x8192x1024, .f32⟩
  | .hbm, ⟨13, _⟩ => ⟨S2x8192x1024, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1, .f32⟩
  | .hbm, ⟨24, _⟩ => ⟨S2x8192x1024, .f32⟩
  | .hbm, ⟨25, _⟩ => ⟨S2x8192x1024, .f32⟩
  | .hbm, ⟨26, _⟩ => ⟨S1x1x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x4x256, .f32⟩
  | .hbm, ⟨31, _⟩ => ⟨S2x4x8192x256, .f32⟩
  | .hbm, ⟨32, _⟩ => ⟨S_, .f32⟩
  | .hbm, ⟨33, _⟩ => ⟨S2x4x8192x256, .f32⟩
  | .hbm, ⟨34, _⟩ => ⟨S2x4x8192x256, .f32⟩
  | .hbm, ⟨35, _⟩ => ⟨S_, .f32⟩
  | .hbm, ⟨36, _⟩ => ⟨S2x4x8192, .f32⟩
  | .hbm, ⟨37, _⟩ => ⟨S_, .f32⟩
  | .hbm, ⟨38, _⟩ => ⟨S2x4x8192, .f32⟩
  | .hbm, ⟨39, _⟩ => ⟨S2x4x8192, .f32⟩
  | .hbm, ⟨40, _⟩ => ⟨S2x4x8192x1, .f32⟩
  | .hbm, ⟨41, _⟩ => ⟨S2x4x8192x256, .f32⟩
  | .hbm, ⟨42, _⟩ => ⟨S2x4x8192x256, .f32⟩
  | .hbm, ⟨43, _⟩ => ⟨S2x4x8192x256, .f32⟩
  | .hbm, ⟨44, _⟩ => ⟨S_, .f32⟩
  | .hbm, ⟨45, _⟩ => ⟨S2x4x8192, .f32⟩
  | .hbm, ⟨46, _⟩ => ⟨S2x4x8192x1, .f32⟩
  | .hbm, ⟨47, _⟩ => ⟨S2x4x8192x256, .f32⟩
  | .hbm, ⟨48, _⟩ => ⟨S2x4x8192x256, .f32⟩
  | .hbm, ⟨49, _⟩ => ⟨S2x4x256x8192, .f32⟩
  | .hbm, ⟨50, _⟩ => ⟨S2x8192x4x256, .f32⟩
  | .hbm, ⟨51, _⟩ => ⟨S2x8192x1024, .f32⟩
  | .hbm, ⟨52, _⟩ => ⟨S2x8192x1024, .f32⟩
  | .hbm, ⟨53, _⟩ => ⟨S2x8192x1024, .f32⟩
  | .hbm, ⟨54, _⟩ => ⟨S16384x1024, .f32⟩
  | .hbm, ⟨55, _⟩ => ⟨S1024x1024, .f32⟩
  | .hbm, ⟨56, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Kernel2.lean ====
abbrev S17408x1024 : Shape := ⟨2, ![17408, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 10
  | .vmem => 8
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S1x1024, .f32⟩
  | .hbm, ⟨9, _⟩ => ⟨S17408x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1024x1024, .f32⟩
  | .local _ .vmem, ⟨7, _⟩ => ⟨S1024x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S17408x1024 : Shape := ⟨2, ![17408, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S17408x2816 : Shape := ⟨2, ![17408, 2816]⟩

abbrev nBuf : Space → Nat
  | .hbm => 38
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S17408x1024, .f32⟩
  | .hbm, ⟨6, _⟩ => ⟨S_, .f32⟩
  | .hbm, ⟨7, _⟩ => ⟨S17408, .f32⟩
  | .hbm, ⟨8, _⟩ => ⟨S17408x1, .f32⟩
  | .hbm, ⟨9, _⟩ => ⟨S_, .f32⟩
  | .hbm, ⟨10, _⟩ => ⟨S17408x1, .f32⟩
  | .hbm, ⟨11, _⟩ => ⟨S17408x1, .f32⟩
  | .hbm, ⟨12, _⟩ => ⟨S_, .f32⟩
  | .hbm, ⟨13, _⟩ => ⟨S17408x1, .f32⟩
  | .hbm, ⟨14, _⟩ => ⟨S17408x1, .f32⟩
  | .hbm, ⟨15, _⟩ => ⟨S17408x1, .f32⟩
  | .hbm, ⟨16, _⟩ => ⟨S17408x1024, .f32⟩
  | .hbm, ⟨17, _⟩ => ⟨S17408x1024, .f32⟩
  | .hbm, ⟨18, _⟩ => ⟨S1x1024, .f32⟩
  | .hbm, ⟨19, _⟩ => ⟨S17408x1024, .f32⟩
  | .hbm, ⟨20, _⟩ => ⟨S17408x1024, .f32⟩
  | .hbm, ⟨21, _⟩ => ⟨S17408x2816, .f32⟩
  | .hbm, ⟨22, _⟩ => ⟨S17408x2816, .f32⟩
  | .hbm, ⟨23, _⟩ => ⟨S17408x2816, .f32⟩
  | .hbm, ⟨24, _⟩ => ⟨S_, .f32⟩
  | .hbm, ⟨25, _⟩ => ⟨S17408x2816, .f32⟩
  | .hbm, ⟨26, _⟩ => ⟨S17408x2816, .f32⟩
  | .hbm, ⟨27, _⟩ => ⟨S_, .f32⟩
  | .hbm, ⟨28, _⟩ => ⟨S17408x2816, .f32⟩
  | .hbm, ⟨29, _⟩ => ⟨S17408x2816, .f32⟩
  | .hbm, ⟨30, _⟩ => ⟨S17408x2816, .f32⟩
  | .hbm, ⟨31, _⟩ => ⟨S17408x2816, .f32⟩
  | .hbm, ⟨32, _⟩ => ⟨S17408x2816, .f32⟩
  | .hbm, ⟨33, _⟩ => ⟨S17408x1024, .f32⟩
  | .hbm, ⟨34, _⟩ => ⟨S_, .f32⟩
  | .hbm, ⟨35, _⟩ => ⟨S17408x1024, .f32⟩
  | .hbm, ⟨36, _⟩ => ⟨S17408x1024, .f32⟩
  | .hbm, ⟨37, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Kernel3.lean ====
abbrev S2x256x1024 : Shape := ⟨3, ![2, 256, 1024]⟩
abbrev S4x1024 : Shape := ⟨2, ![4, 1024]⟩
abbrev S4x1024x1024 : Shape := ⟨3, ![4, 1024, 1024]⟩
abbrev S512x1024 : Shape := ⟨2, ![512, 1024]⟩
abbrev S4x1024x2048 : Shape := ⟨3, ![4, 1024, 2048]⟩
abbrev S4x1x1024 : Shape := ⟨3, ![4, 1, 1024]⟩
abbrev S4x512x2048 : Shape := ⟨3, ![4, 512, 2048]⟩
abbrev S1x1x1024 : Shape := ⟨3, ![1, 1, 1024]⟩
abbrev S1x1024x2048 : Shape := ⟨3, ![1, 1024, 2048]⟩
abbrev S1x512x2048 : Shape := ⟨3, ![1, 512, 2048]⟩
abbrev S1x1024 : Shape := ⟨2, ![1, 1024]⟩
abbrev S512 : Shape := ⟨1, ![512]⟩
abbrev S512x1 : Shape := ⟨2, ![512, 1]⟩
abbrev S1024x2048 : Shape := ⟨2, ![1024, 2048]⟩
abbrev S512x2048 : Shape := ⟨2, ![512, 2048]⟩

abbrev nBuf : Space → Nat
  | .hbm => 9
  | .vmem => 7
  | .smem => 0
  | _ => 0

abbrev bufTy : (tb : Table) → Fin (tcTables nBuf tb) → BufTy
  | .hbm, ⟨0, _⟩ => ⟨S2x256x1024, .f32⟩
  | .hbm, ⟨1, _⟩ => ⟨S4x1024, .f32⟩
  | .hbm, ⟨2, _⟩ => ⟨S4x1024x1024, .f32⟩
  | .hbm, ⟨3, _⟩ => ⟨S4x1024x1024, .f32⟩
  | .hbm, ⟨4, _⟩ => ⟨S512x1024, .f32⟩
  | .hbm, ⟨5, _⟩ => ⟨S4x1024x2048, .f32⟩
  | .hbm, ⟨6, _⟩ => ⟨S4x1024x2048, .bf16⟩
  | .hbm, ⟨7, _⟩ => ⟨S4x1x1024, .f32⟩
  | .hbm, ⟨8, _⟩ => ⟨S4x512x2048, .f32⟩
  | .local _ .vmem, ⟨0, _⟩ => ⟨S512x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1024x2048, .bf16⟩
  | .local _ .vmem, ⟨4, _⟩ => ⟨S1x1024x2048, .bf16⟩
  | .local _ .vmem, ⟨5, _⟩ => ⟨S1x512x2048, .f32⟩
  | .local _ .vmem, ⟨6, _⟩ => ⟨S1x512x2048, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S2x256x1024 : Shape := ⟨3, ![2, 256, 1024]⟩
abbrev S4x1024 : Shape := ⟨2, ![4, 1024]⟩
abbrev S4x1024x1024 : Shape := ⟨3, ![4, 1024, 1024]⟩
abbrev S1x1024 : Shape := ⟨2, ![1, 1024]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S1x2x256x1024 : Shape := ⟨4, ![1, 2, 256, 1024]⟩
abbrev S4x2x256x1024 : Shape := ⟨4, ![4, 2, 256, 1024]⟩
abbrev S4x2x256x2048 : Shape := ⟨4, ![4, 2, 256, 2048]⟩
abbrev S4x512x2048 : Shape := ⟨3, ![4, 512, 2048]⟩

abbrev nBuf : Space → Nat
  | .hbm => 112
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S4x1024, .f32⟩
  | .hbm, ⟨2, _⟩ => ⟨S4x1024x1024, .f32⟩
  | .hbm, ⟨3, _⟩ => ⟨S4x1024x1024, .f32⟩
  | .hbm, ⟨4, _⟩ => ⟨S1x1024, .f32⟩
  | .hbm, ⟨5, _⟩ => ⟨S1024, .f32⟩
  | .hbm, ⟨6, _⟩ => ⟨S2x256x1024, .f32⟩
  | .hbm, ⟨7, _⟩ => ⟨S_, .f32⟩
  | .hbm, ⟨8, _⟩ => ⟨S2x256, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S_, .f32⟩
  | .hbm, ⟨14, _⟩ => ⟨S2x256x1, .f32⟩
  | .hbm, ⟨15, _⟩ => ⟨S2x256x1, .f32⟩
  | .hbm, ⟨16, _⟩ => ⟨S2x256x1, .f32⟩
  | .hbm, ⟨17, _⟩ => ⟨S2x256x1024, .f32⟩
  | .hbm, ⟨18, _⟩ => ⟨S2x256x1024, .f32⟩
  | .hbm, ⟨19, _⟩ => ⟨S1x1x1024, .f32⟩
  | .hbm, ⟨20, _⟩ => ⟨S2x256x1024, .f32⟩
  | .hbm, ⟨21, _⟩ => ⟨S2x256x1024, .f32⟩
  | .hbm, ⟨22, _⟩ => ⟨S1x1024x1024, .f32⟩
  | .hbm, ⟨23, _⟩ => ⟨S1024x1024, .f32⟩
  | .hbm, ⟨24, _⟩ => ⟨S2x256x1024, .f32⟩
  | .hbm, ⟨25, _⟩ => ⟨S1x1024x1024, .f32⟩
  | .hbm, ⟨26, _⟩ => ⟨S1024x1024, .f32⟩
  | .hbm, ⟨27, _⟩ => ⟨S2x256x1024, .f32⟩
  | .hbm, ⟨28, _⟩ => ⟨S1x1024, .f32⟩
  | .hbm, ⟨29, _⟩ => ⟨S1024, .f32⟩
  | .hbm, ⟨30, _⟩ => ⟨S2x256x1024, .f32⟩
  | .hbm, ⟨31, _⟩ => ⟨S_, .f32⟩
  | .hbm, ⟨32, _⟩ => ⟨S2x256, .f32⟩
  | .hbm, ⟨33, _⟩ => ⟨S2x256x1, .f32⟩
  | .hbm, ⟨34, _⟩ => ⟨S_, .f32⟩
  | .hbm, ⟨35, _⟩ => ⟨S2x256x1, .f32⟩
  | .hbm, ⟨36, _⟩ => ⟨S2x256x1, .f32⟩
  | .hbm, ⟨37, _⟩ => ⟨S_, .f32⟩
  | .hbm, ⟨38, _⟩ => ⟨S2x256x1, .f32⟩
  | .hbm, ⟨39, _⟩ => ⟨S2x256x1, .f32⟩
  | .hbm, ⟨40, _⟩ => ⟨S2x256x1, .f32⟩
  | .hbm, ⟨41, _⟩ => ⟨S2x256x1024, .f32⟩
  | .hbm, ⟨42, _⟩ => ⟨S2x256x1024, .f32⟩
  | .hbm, ⟨43, _⟩ => ⟨S1x1x1024, .f32⟩
  | .hbm, ⟨44, _⟩ => ⟨S2x256x1024, .f32⟩
  | .hbm, ⟨45, _⟩ => ⟨S2x256x1024, .f32⟩
  | .hbm, ⟨46, _⟩ => ⟨S1x1024x1024, .f32⟩
  | .hbm, ⟨47, _⟩ => ⟨S1024x1024, .f32⟩
  | .hbm, ⟨48, _⟩ => ⟨S2x256x1024, .f32⟩
  | .hbm, ⟨49, _⟩ => ⟨S1x1024x1024, .f32⟩
  | .hbm, ⟨50, _⟩ => ⟨S1024x1024, .f32⟩
  | .hbm, ⟨51, _⟩ => ⟨S2x256x1024, .f32⟩
  | .hbm, ⟨52, _⟩ => ⟨S1x1024, .f32⟩
  | .hbm, ⟨53, _⟩ => ⟨S1024, .f32⟩
  | .hbm, ⟨54, _⟩ => ⟨S2x256x1024, .f32⟩
  | .hbm, ⟨55, _⟩ => ⟨S_, .f32⟩
  | .hbm, ⟨56, _⟩ => ⟨S2x256, .f32⟩
  | .hbm, ⟨57, _⟩ => ⟨S2x256x1, .f32⟩
  | .hbm, ⟨58, _⟩ => ⟨S_, .f32⟩
  | .hbm, ⟨59, _⟩ => ⟨S2x256x1, .f32⟩
  | .hbm, ⟨60, _⟩ => ⟨S2x256x1, .f32⟩
  | .hbm, ⟨61, _⟩ => ⟨S_, .f32⟩
  | .hbm, ⟨62, _⟩ => ⟨S2x256x1, .f32⟩
  | .hbm, ⟨63, _⟩ => ⟨S2x256x1, .f32⟩
  | .hbm, ⟨64, _⟩ => ⟨S2x256x1, .f32⟩
  | .hbm, ⟨65, _⟩ => ⟨S2x256x1024, .f32⟩
  | .hbm, ⟨66, _⟩ => ⟨S2x256x1024, .f32⟩
  | .hbm, ⟨67, _⟩ => ⟨S1x1x1024, .f32⟩
  | .hbm, ⟨68, _⟩ => ⟨S2x256x1024, .f32⟩
  | .hbm, ⟨69, _⟩ => ⟨S2x256x1024, .f32⟩
  | .hbm, ⟨70, _⟩ => ⟨S1x1024x1024, .f32⟩
  | .hbm, ⟨71, _⟩ => ⟨S1024x1024, .f32⟩
  | .hbm, ⟨72, _⟩ => ⟨S2x256x1024, .f32⟩
  | .hbm, ⟨73, _⟩ => ⟨S1x1024x1024, .f32⟩
  | .hbm, ⟨74, _⟩ => ⟨S1024x1024, .f32⟩
  | .hbm, ⟨75, _⟩ => ⟨S2x256x1024, .f32⟩
  | .hbm, ⟨76, _⟩ => ⟨S1x1024, .f32⟩
  | .hbm, ⟨77, _⟩ => ⟨S1024, .f32⟩
  | .hbm, ⟨78, _⟩ => ⟨S2x256x1024, .f32⟩
  | .hbm, ⟨79, _⟩ => ⟨S_, .f32⟩
  | .hbm, ⟨80, _⟩ => ⟨S2x256, .f32⟩
  | .hbm, ⟨81, _⟩ => ⟨S2x256x1, .f32⟩
  | .hbm, ⟨82, _⟩ => ⟨S_, .f32⟩
  | .hbm, ⟨83, _⟩ => ⟨S2x256x1, .f32⟩
  | .hbm, ⟨84, _⟩ => ⟨S2x256x1, .f32⟩
  | .hbm, ⟨85, _⟩ => ⟨S_, .f32⟩
  | .hbm, ⟨86, _⟩ => ⟨S2x256x1, .f32⟩
  | .hbm, ⟨87, _⟩ => ⟨S2x256x1, .f32⟩
  | .hbm, ⟨88, _⟩ => ⟨S2x256x1, .f32⟩
  | .hbm, ⟨89, _⟩ => ⟨S2x256x1024, .f32⟩
  | .hbm, ⟨90, _⟩ => ⟨S2x256x1024, .f32⟩
  | .hbm, ⟨91, _⟩ => ⟨S1x1x1024, .f32⟩
  | .hbm, ⟨92, _⟩ => ⟨S2x256x1024, .f32⟩
  | .hbm, ⟨93, _⟩ => ⟨S2x256x1024, .f32⟩
  | .hbm, ⟨94, _⟩ => ⟨S1x1024x1024, .f32⟩
  | .hbm, ⟨95, _⟩ => ⟨S1024x1024, .f32⟩
  | .hbm, ⟨96, _⟩ => ⟨S2x256x1024, .f32⟩
  | .hbm, ⟨97, _⟩ => ⟨S1x1024x1024, .f32⟩
  | .hbm, ⟨98, _⟩ => ⟨S1024x1024, .f32⟩
  | .hbm, ⟨99, _⟩ => ⟨S2x256x1024, .f32⟩
  | .hbm, ⟨100, _⟩ => ⟨S1x2x256x1024, .f32⟩
  | .hbm, ⟨101, _⟩ => ⟨S1x2x256x1024, .f32⟩
  | .hbm, ⟨102, _⟩ => ⟨S1x2x256x1024, .f32⟩
  | .hbm, ⟨103, _⟩ => ⟨S1x2x256x1024, .f32⟩
  | .hbm, ⟨104, _⟩ => ⟨S4x2x256x1024, .f32⟩
  | .hbm, ⟨105, _⟩ => ⟨S1x2x256x1024, .f32⟩
  | .hbm, ⟨106, _⟩ => ⟨S1x2x256x1024, .f32⟩
  | .hbm, ⟨107, _⟩ => ⟨S1x2x256x1024, .f32⟩
  | .hbm, ⟨108, _⟩ => ⟨S1x2x256x1024, .f32⟩
  | .hbm, ⟨109, _⟩ => ⟨S4x2x256x1024, .f32⟩
  | .hbm, ⟨110, _⟩ => ⟨S4x2x256x2048, .f32⟩
  | .hbm, ⟨111, _⟩ => ⟨S4x512x2048, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_8 : Ref sig .tc := ⟨.hbm, 79, rfl⟩
abbrev main_v66 : Ref sig .tc := ⟨.hbm, 80, rfl⟩
abbrev main_v67 : Ref sig .tc := ⟨.hbm, 81, rfl⟩
abbrev main_cst_9 : Ref sig .tc := ⟨.hbm, 82, rfl⟩
abbrev main_v68 : Ref sig .tc := ⟨.hbm, 83, rfl⟩
abbrev main_v69 : Ref sig .tc := ⟨.hbm, 84, rfl⟩
abbrev main_cst_10 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩

abbrev nD : Nat := 1
abbrev τ : Topo := Topo.v7x

variable {F : FTy → Type} [FloatOps F]
-- ==== Kernel4.lean ====
abbrev S17408x1024 : Shape := ⟨2, ![17408, 1024]⟩
abbrev S1024 : Shape := ⟨1, ![1024]⟩
abbrev S1024x3360 : Shape := ⟨2, ![1024, 3360]⟩
abbrev S1024x1536 : Shape := ⟨2, ![1024, 1536]⟩
abbrev S1024x4 : Shape := ⟨2, ![1024, 4]⟩
abbrev S1024x512 : Shape := ⟨2, ![1024, 512]⟩
abbrev S1024x768 : Shape := ⟨2, ![1024, 768]⟩
abbrev S1024x24 : Shape := ⟨2, ![1024, 24]⟩
abbrev S1024x128 : Shape := ⟨2, ![1024, 128]⟩
abbrev S_ : Shape := ⟨0, ![]⟩
abbrev S1024x96 : Shape := ⟨2, ![1024, 96]⟩
abbrev S1024x3456 : Shape := ⟨2, ![1024, 3456]⟩
abbrev S1x1024 : Shape := ⟨2, ![1, 1024]⟩
abbrev S17408x1536 : Shape := ⟨2, ![17408, 1536]⟩
abbrev S17408x768 : Shape := ⟨2, ![17408, 768]⟩
abbrev S17408x512 : Shape := ⟨2, ![17408, 512]⟩
abbrev S17408x128 : Shape := ⟨2, ![17408, 128]⟩
abbrev S512x1024 : Shape := ⟨2, ![512, 1024]⟩
abbrev S512x1536 : Shape := ⟨2, ![512, 1536]⟩
abbrev S512x768 : Shape := ⟨2, ![512, 768]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 27
  | .vmem => 14
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x3360, .f32⟩
  | .hbm, ⟨3, _⟩ => ⟨S1024x1536, .f32⟩
  | .hbm, ⟨4, _⟩ => ⟨S1024x4, .f32⟩
  | .hbm, ⟨5, _⟩ => ⟨S1024x4, .f32⟩
  | .hbm, ⟨6, _⟩ => ⟨S1024x512, .f32⟩
  | .hbm, ⟨7, _⟩ => ⟨S1024x512, .f32⟩
  | .hbm, ⟨8, _⟩ => ⟨S1024x768, .f32⟩
  | .hbm, ⟨9, _⟩ => ⟨S1024x24, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S1024x128, .f32⟩
  | .hbm, ⟨16, _⟩ => ⟨S_, .f32⟩
  | .hbm, ⟨17, _⟩ => ⟨S1024x96, .f32⟩
  | .hbm, ⟨18, _⟩ => ⟨S1024x128, .f32⟩
  | .hbm, ⟨19, _⟩ => ⟨S1024x3456, .f32⟩
  | .hbm, ⟨20, _⟩ => ⟨S1024x3456, .bf16⟩
  | .hbm, ⟨21, _⟩ => ⟨S1x1024, .f32⟩
  | .hbm, ⟨22, _⟩ => ⟨S17408x1536, .f32⟩
  | .hbm, ⟨23, _⟩ => ⟨S17408x768, .f32⟩
  | .hbm, ⟨24, _⟩ => ⟨S17408x512, .f32⟩
  | .hbm, ⟨25, _⟩ => ⟨S17408x512, .f32⟩
  | .hbm, ⟨26, _⟩ => ⟨S17408x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3456, .bf16⟩
  | .local _ .vmem, ⟨4, _⟩ => ⟨S512x1536, .f32⟩
  | .local _ .vmem, ⟨5, _⟩ => ⟨S512x1536, .f32⟩
  | .local _ .vmem, ⟨6, _⟩ => ⟨S512x768, .f32⟩
  | .local _ .vmem, ⟨7, _⟩ => ⟨S512x768, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x128, .f32⟩
  | .local _ .vmem, ⟨13, _⟩ => ⟨S512x128, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18_0 : Ref sig .tc := ⟨.hbm, 22, rfl⟩
abbrev main_v18_1 : Ref sig .tc := ⟨.hbm, 23, rfl⟩
abbrev main_v18_2 : Ref sig .tc := ⟨.hbm, 24, rfl⟩
abbrev main_v18_3 : Ref sig .tc := ⟨.hbm, 25, rfl⟩
abbrev main_v18_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S17408x1024 : Shape := ⟨2, ![17408, 1024]⟩
abbrev S1024 : Shape := ⟨1, ![1024]⟩
abbrev S1024x3360 : Shape := ⟨2, ![1024, 3360]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S17408x3360 : Shape := ⟨2, ![17408, 3360]⟩
abbrev S17408x1536 : Shape := ⟨2, ![17408, 1536]⟩
abbrev S17408x4 : Shape := ⟨2, ![17408, 4]⟩
abbrev S17408x512 : Shape := ⟨2, ![17408, 512]⟩
abbrev S17408x768 : Shape := ⟨2, ![17408, 768]⟩
abbrev S17408x24 : Shape := ⟨2, ![17408, 24]⟩
abbrev S17408x128 : Shape := ⟨2, ![17408, 128]⟩
abbrev S17408x96 : Shape := ⟨2, ![17408, 96]⟩

abbrev nBuf : Space → Nat
  | .hbm => 37
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x3360, .f32⟩
  | .hbm, ⟨3, _⟩ => ⟨S17408x1024, .f32⟩
  | .hbm, ⟨4, _⟩ => ⟨S_, .f32⟩
  | .hbm, ⟨5, _⟩ => ⟨S17408, .f32⟩
  | .hbm, ⟨6, _⟩ => ⟨S17408x1, .f32⟩
  | .hbm, ⟨7, _⟩ => ⟨S_, .f32⟩
  | .hbm, ⟨8, _⟩ => ⟨S17408x1, .f32⟩
  | .hbm, ⟨9, _⟩ => ⟨S17408x1, .f32⟩
  | .hbm, ⟨10, _⟩ => ⟨S_, .f32⟩
  | .hbm, ⟨11, _⟩ => ⟨S17408x1, .f32⟩
  | .hbm, ⟨12, _⟩ => ⟨S17408x1, .f32⟩
  | .hbm, ⟨13, _⟩ => ⟨S17408x1, .f32⟩
  | .hbm, ⟨14, _⟩ => ⟨S17408x1024, .f32⟩
  | .hbm, ⟨15, _⟩ => ⟨S17408x1024, .f32⟩
  | .hbm, ⟨16, _⟩ => ⟨S1x1024, .f32⟩
  | .hbm, ⟨17, _⟩ => ⟨S17408x1024, .f32⟩
  | .hbm, ⟨18, _⟩ => ⟨S17408x1024, .f32⟩
  | .hbm, ⟨19, _⟩ => ⟨S17408x3360, .f32⟩
  | .hbm, ⟨20, _⟩ => ⟨S17408x1536, .f32⟩
  | .hbm, ⟨21, _⟩ => ⟨S17408x4, .f32⟩
  | .hbm, ⟨22, _⟩ => ⟨S17408x4, .f32⟩
  | .hbm, ⟨23, _⟩ => ⟨S17408x512, .f32⟩
  | .hbm, ⟨24, _⟩ => ⟨S17408x512, .f32⟩
  | .hbm, ⟨25, _⟩ => ⟨S17408x768, .f32⟩
  | .hbm, ⟨26, _⟩ => ⟨S17408x24, .f32⟩
  | .hbm, ⟨27, _⟩ => ⟨S17408x128, .f32⟩
  | .hbm, ⟨28, _⟩ => ⟨S17408x128, .f32⟩
  | .hbm, ⟨29, _⟩ => ⟨S17408x128, .f32⟩
  | .hbm, ⟨30, _⟩ => ⟨S17408x128, .f32⟩
  | .hbm, ⟨31, _⟩ => ⟨S17408x128, .f32⟩
  | .hbm, ⟨32, _⟩ => ⟨S17408x128, .f32⟩
  | .hbm, ⟨33, _⟩ => ⟨S17408x768, .f32⟩
  | .hbm, ⟨34, _⟩ => ⟨S_, .f32⟩
  | .hbm, ⟨35, _⟩ => ⟨S17408x96, .f32⟩
  | .hbm, ⟨36, _⟩ => ⟨S17408x128, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Kernel5.lean ====
abbrev S17408x1024 : Shape := ⟨2, ![17408, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1x1024, .f32⟩
  | .hbm, ⟨3, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S17408x1024 : Shape := ⟨2, ![17408, 1024]⟩
abbrev S1024 : Shape := ⟨1, ![1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S17408x1024, .f32⟩
  | .hbm, ⟨3, _⟩ => ⟨S_, .f32⟩
  | .hbm, ⟨4, _⟩ => ⟨S17408, .f32⟩
  | .hbm, ⟨5, _⟩ => ⟨S17408x1, .f32⟩
  | .hbm, ⟨6, _⟩ => ⟨S_, .f32⟩
  | .hbm, ⟨7, _⟩ => ⟨S17408x1, .f32⟩
  | .hbm, ⟨8, _⟩ => ⟨S17408x1, .f32⟩
  | .hbm, ⟨9, _⟩ => ⟨S_, .f32⟩
  | .hbm, ⟨10, _⟩ => ⟨S17408x1, .f32⟩
  | .hbm, ⟨11, _⟩ => ⟨S17408x1, .f32⟩
  | .hbm, ⟨12, _⟩ => ⟨S17408x1, .f32⟩
  | .hbm, ⟨13, _⟩ => ⟨S17408x1024, .f32⟩
  | .hbm, ⟨14, _⟩ => ⟨S17408x1024, .f32⟩
  | .hbm, ⟨15, _⟩ => ⟨S1x1024, .f32⟩
  | .hbm, ⟨16, _⟩ => ⟨S17408x1024, .f32⟩
  | .hbm, ⟨17, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel6.lean ====
abbrev S16384x1024 : Shape := ⟨2, ![16384, 1024]⟩
abbrev S1024x1024 : Shape := ⟨2, ![1024, 1024]⟩
abbrev S1024 : Shape := ⟨1, ![1024]⟩
abbrev S1024x2048 : Shape := ⟨2, ![1024, 2048]⟩
abbrev S17408x1024 : Shape := ⟨2, ![17408, 1024]⟩
abbrev S1x1024 : Shape := ⟨2, ![1, 1024]⟩
abbrev S1024x256 : Shape := ⟨2, ![1024, 256]⟩
abbrev S256x1024 : Shape := ⟨2, ![256, 1024]⟩

abbrev nBuf : Space → Nat
  | .hbm => 12
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S1024, .f32⟩
  | .hbm, ⟨3, _⟩ => ⟨S1024x2048, .f32⟩
  | .hbm, ⟨4, _⟩ => ⟨S1024x1024, .f32⟩
  | .hbm, ⟨5, _⟩ => ⟨S17408x1024, .f32⟩
  | .hbm, ⟨6, _⟩ => ⟨S1024x2048, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S17408x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S16384x1024 : Shape := ⟨2, ![16384, 1024]⟩
abbrev S1024x1024 : Shape := ⟨2, ![1024, 1024]⟩
abbrev S1024 : Shape := ⟨1, ![1024]⟩
abbrev S1024x2048 : Shape := ⟨2, ![1024, 2048]⟩
abbrev S17408x1024 : Shape := ⟨2, ![17408, 1024]⟩
abbrev S17408x2048 : Shape := ⟨2, ![17408, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S1024, .f32⟩
  | .hbm, ⟨3, _⟩ => ⟨S1024x2048, .f32⟩
  | .hbm, ⟨4, _⟩ => ⟨S1024x1024, .f32⟩
  | .hbm, ⟨5, _⟩ => ⟨S17408x1024, .f32⟩
  | .hbm, ⟨6, _⟩ => ⟨S17408x1024, .bf16⟩
  | .hbm, ⟨7, _⟩ => ⟨S17408x1024, .f32⟩
  | .hbm, ⟨8, _⟩ => ⟨S17408x2048, .f32⟩
  | .hbm, ⟨9, _⟩ => ⟨S17408x1024, .f32⟩
  | .hbm, ⟨10, _⟩ => ⟨S17408x1024, .f32⟩
  | .hbm, ⟨11, _⟩ => ⟨S17408x1024, .f32⟩
  | .hbm, ⟨12, _⟩ => ⟨S17408x1024, .f32⟩
  | .hbm, ⟨13, _⟩ => ⟨S_, .f32⟩
  | .hbm, ⟨14, _⟩ => ⟨S17408x1024, .f32⟩
  | .hbm, ⟨15, _⟩ => ⟨S17408x1024, .f32⟩
  | .hbm, ⟨16, _⟩ => ⟨S_, .f32⟩
  | .hbm, ⟨17, _⟩ => ⟨S17408x1024, .f32⟩
  | .hbm, ⟨18, _⟩ => ⟨S17408x1024, .f32⟩
  | .hbm, ⟨19, _⟩ => ⟨S17408x1024, .f32⟩
  | .hbm, ⟨20, _⟩ => ⟨S17408x1024, .f32⟩
  | .hbm, ⟨21, _⟩ => ⟨S17408x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Kernel7.lean ====
abbrev S17408x1024 : Shape := ⟨2, ![17408, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x1024, .f32⟩
  | .hbm, ⟨3, _⟩ => ⟨S1024x1024, .bf16⟩
  | .hbm, ⟨4, _⟩ => ⟨S1x1024, .f32⟩
  | .hbm, ⟨5, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S17408x1024 : Shape := ⟨2, ![17408, 1024]⟩
abbrev S1024 : Shape := ⟨1, ![1024]⟩
abbrev S1024x1024 : Shape := ⟨2, ![1024, 1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x1024, .f32⟩
  | .hbm, ⟨3, _⟩ => ⟨S17408x1024, .f32⟩
  | .hbm, ⟨4, _⟩ => ⟨S_, .f32⟩
  | .hbm, ⟨5, _⟩ => ⟨S17408, .f32⟩
  | .hbm, ⟨6, _⟩ => ⟨S17408x1, .f32⟩
  | .hbm, ⟨7, _⟩ => ⟨S_, .f32⟩
  | .hbm, ⟨8, _⟩ => ⟨S17408x1, .f32⟩
  | .hbm, ⟨9, _⟩ => ⟨S17408x1, .f32⟩
  | .hbm, ⟨10, _⟩ => ⟨S_, .f32⟩
  | .hbm, ⟨11, _⟩ => ⟨S17408x1, .f32⟩
  | .hbm, ⟨12, _⟩ => ⟨S17408x1, .f32⟩
  | .hbm, ⟨13, _⟩ => ⟨S17408x1, .f32⟩
  | .hbm, ⟨14, _⟩ => ⟨S17408x1024, .f32⟩
  | .hbm, ⟨15, _⟩ => ⟨S17408x1024, .f32⟩
  | .hbm, ⟨16, _⟩ => ⟨S1x1024, .f32⟩
  | .hbm, ⟨17, _⟩ => ⟨S17408x1024, .f32⟩
  | .hbm, ⟨18, _⟩ => ⟨S17408x1024, .f32⟩
  | .hbm, ⟨19, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel8.lean ====
abbrev S16384x512 : Shape := ⟨2, ![16384, 512]⟩
abbrev S1024x512 : Shape := ⟨2, ![1024, 512]⟩
abbrev S1024x1024 : Shape := ⟨2, ![1024, 1024]⟩
abbrev S17408x1024 : Shape := ⟨2, ![17408, 1024]⟩
abbrev S512x1024 : Shape := ⟨2, ![512, 1024]⟩
abbrev S512x512 : Shape := ⟨2, ![512, 512]⟩

abbrev nBuf : Space → Nat
  | .hbm => 10
  | .vmem => 14
  | .smem => 0
  | _ => 0

abbrev bufTy : (tb : Table) → Fin (tcTables nBuf tb) → BufTy
  | .hbm, ⟨0, _⟩ => ⟨S16384x512, .f32⟩
  | .hbm, ⟨1, _⟩ => ⟨S1024x512, .f32⟩
  | .hbm, ⟨2, _⟩ => ⟨S16384x512, .f32⟩
  | .hbm, ⟨3, _⟩ => ⟨S1024x512, .f32⟩
  | .hbm, ⟨4, _⟩ => ⟨S1024x1024, .f32⟩
  | .hbm, ⟨5, _⟩ => ⟨S17408x1024, .f32⟩
  | .hbm, ⟨6, _⟩ => ⟨S1024x1024, .bf16⟩
  | .hbm, ⟨7, _⟩ => ⟨S512x1024, .bf16⟩
  | .hbm, ⟨8, _⟩ => ⟨S512x1024, .bf16⟩
  | .hbm, ⟨9, _⟩ => ⟨S17408x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S16384x512 : Shape := ⟨2, ![16384, 512]⟩
abbrev S1024x512 : Shape := ⟨2, ![1024, 512]⟩
abbrev S1024x1024 : Shape := ⟨2, ![1024, 1024]⟩
abbrev S17408x1024 : Shape := ⟨2, ![17408, 1024]⟩
abbrev S16384x1024 : Shape := ⟨2, ![16384, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S1024x512, .f32⟩
  | .hbm, ⟨2, _⟩ => ⟨S16384x512, .f32⟩
  | .hbm, ⟨3, _⟩ => ⟨S1024x512, .f32⟩
  | .hbm, ⟨4, _⟩ => ⟨S1024x1024, .f32⟩
  | .hbm, ⟨5, _⟩ => ⟨S17408x1024, .f32⟩
  | .hbm, ⟨6, _⟩ => ⟨S16384x1024, .f32⟩
  | .hbm, ⟨7, _⟩ => ⟨S1024x1024, .f32⟩
  | .hbm, ⟨8, _⟩ => ⟨S17408x1024, .f32⟩
  | .hbm, ⟨9, _⟩ => ⟨S17408x1024, .f32⟩
  | .hbm, ⟨10, _⟩ => ⟨S17408x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== Kernel9.lean ====
abbrev S17408x1024 : Shape := ⟨2, ![17408, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x1024, .f32⟩
  | .hbm, ⟨3, _⟩ => ⟨S1024x1024, .bf16⟩
  | .hbm, ⟨4, _⟩ => ⟨S1x1024, .f32⟩
  | .hbm, ⟨5, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S17408x1024 : Shape := ⟨2, ![17408, 1024]⟩
abbrev S1024 : Shape := ⟨1, ![1024]⟩
abbrev S1024x1024 : Shape := ⟨2, ![1024, 1024]⟩
abbrev S_ : Shape := ⟨0, ![]⟩
abbrev S1024x1 : Shape := ⟨2, ![1024, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x1024, .f32⟩
  | .hbm, ⟨16, _⟩ => ⟨S1024x1024, .f32⟩
  | .hbm, ⟨17, _⟩ => ⟨S1x1024, .f32⟩
  | .hbm, ⟨18, _⟩ => ⟨S1024x1024, .f32⟩
  | .hbm, ⟨19, _⟩ => ⟨S1024x1024, .f32⟩
  | .hbm, ⟨20, _⟩ => ⟨S1024x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel10.lean ====
abbrev S1024x1024 : Shape := ⟨2, ![1024, 1024]⟩
abbrev S17408x1024 : Shape := ⟨2, ![17408, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S17408x1024, .f32⟩
  | .hbm, ⟨3, _⟩ => ⟨S1024x1024, .bf16⟩
  | .hbm, ⟨4, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S1024x1024 : Shape := ⟨2, ![1024, 1024]⟩
abbrev S17408x1024 : Shape := ⟨2, ![17408, 1024]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S17408x1024, .f32⟩
  | .hbm, ⟨3, _⟩ => ⟨S16384x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S17408x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Spec.lean ====
module

public import Idealize.ShloMosaic.Lib.Pipeline.ValueKit

@[expose] public section

/-! The mathematics of the calls, over the extended reals and written entry by entry. -/

set_option maxRecDepth 16384

noncomputable section

open Idealize.ShloMosaic

namespace Cert.Spec

/-- A matrix of extended reals, of literal extents. -/
abbrev Mat (a b : ℕ) := FVec Ideal ⟨2, ![a, b]⟩ .f32
/-- A box of extended reals, of literal extents. -/
abbrev Box (a b c : ℕ) := FVec Ideal ⟨3, ![a, b, c]⟩ .f32
/-- A vector of extended reals, of literal extent. -/
abbrev Row (a : ℕ) := FVec Ideal ⟨1, ![a]⟩ .f32

/-- Entry `k` of the row `v`, divided by the root of its mean square plus epsilon, times the gain `g`. -/
def rms (v g : Fin 1024 → EReal) (k : Fin 1024) : EReal :=
  v k * Ideal.rsqrt (Ideal.div (∑ j, v j * v j) (Ideal.ofBits .f32 0x44800000#32)
    + Ideal.ofBits .f32 0x358637BD#32) * g k

/-- Entry `(l, n, d)` of the cross-attention's keys (`d < 1024`) and values (`d ≥ 1024`) of layer `l`:
    the memory's row `n`, normed, times the layer's key or value weight. -/
def memKvAt (x : Box 2 256 1024) (g : Mat 4 1024) (wk wv : Box 4 1024 1024) (l : Fin 4) (n : Fin 512) (d : Fin 2048) : EReal :=
  ∑ k : Fin 1024, rms (fun j => x (ix3 ⟨n.val / 256, by omega⟩ ⟨n.val % 256, by omega⟩ j)) (fun j => g (ix2 l j)) k
    * (if h : d.val < 1024 then wk (ix3 l k ⟨d.val, h⟩) else wv (ix3 l k ⟨d.val - 1024, by omega⟩))

/-- `memKvAt` as an array. -/
def memKv (x : Box 2 256 1024) (g : Mat 4 1024) (wk wv : Box 4 1024 1024) : Box 4 512 2048 :=
  fun i => memKvAt x g wk wv (i 0) (i 1) (i 2)

/-- Entry `e` of the queries of the row `v`: the normed row times the query weight. -/
def qry (v g : Fin 1024 → EReal) (wq : Mat 1024 1024) (e : Fin 1024) : EReal :=
  ∑ k : Fin 1024, rms v g k * wq (ix2 k e)

/-- The score of head `h` of the query `q` on the memory's row `n`: their product over the head's 256
    features, scaled by 1/16. -/
def score (q : Fin 1024 → EReal) (K : Fin 256 → Fin 1024 → EReal) (h : Fin 4) (n : Fin 256) : EReal :=
  (∑ j : Fin 256, q ⟨h.val * 256 + j.val, by omega⟩ * K n ⟨h.val * 256 + j.val, by omega⟩)
    * Ideal.ofBits .f32 0x3D800000#32

/-- The softmax of 256 scores, at `n`. -/
def soft (s : Fin 256 → EReal) (n : Fin 256) : EReal :=
  Ideal.div (Ideal.exp (s n - Finset.univ.fold max (Ideal.ofBits .f32 0xFF800000#32) s))
    (∑ i, Ideal.exp (s i - Finset.univ.fold max (Ideal.ofBits .f32 0xFF800000#32) s))

/-- Entry `e` of the attention's mixed values: the head of `e` is `e / 256`. -/
def mix (q : Fin 1024 → EReal) (K V : Fin 256 → Fin 1024 → EReal) (e : Fin 1024) : EReal :=
  ∑ n : Fin 256, soft (score q K ⟨e.val / 256, by omega⟩) n * V n e

/-- Entry `d` of the cross-attention's output row: the row plus the mixed values times the output weight. -/
def attnRow (v g : Fin 1024 → EReal) (wq wo : Mat 1024 1024) (K V : Fin 256 → Fin 1024 → EReal) (d : Fin 1024) : EReal :=
  v d + ∑ e : Fin 1024, mix (qry v g wq) K V e * wo (ix2 e d)

/-- The cross-attention of the prompt rows, as an array: row `r < 16384` belongs to the batch entry `r / 8192`
    and attends to its 256 rows of the memory; the other rows are kept. -/
def attn (x : Mat 17408 1024) (g : Row 1024) (wq wo : Mat 1024 1024) (kv : Box 4 512 2048) : Mat 17408 1024 :=
  fun i =>
    if h : (i 0).val < 16384 then
      attnRow (fun j => x (ix2 (i 0) j)) (fun j => g (ix1 j)) wq wo
        (fun n e => kv (ix3 0 ⟨(i 0).val / 8192 * 256 + n.val, by omega⟩ ⟨e.val, by omega⟩))
        (fun n e => kv (ix3 0 ⟨(i 0).val / 8192 * 256 + n.val, by omega⟩ ⟨1024 + e.val, by omega⟩)) (i 1)
    else x i

/-- The gated activation of the gate's entry `a` and the up-projection's entry `u`: `a · 1/(1 + exp(-a)) · u`. -/
def act (a u : EReal) : EReal :=
  a * Ideal.div (Ideal.ofBits .f32 0x3F800000#32) (Ideal.ofBits .f32 0x3F800000#32 + Ideal.exp (-a)) * u

/-- Entry `d` of the feed-forward layer's output row: the row plus half the product of the gated activations of
    the normed row with the last weight. -/
def ffnRow (v g : Fin 1024 → EReal) (wg wu : Mat 1024 2816) (wd : Mat 2816 1024) (d : Fin 1024) : EReal :=
  v d + Ideal.ofBits .f32 0x3F000000#32 * ∑ f : Fin 2816,
    act (∑ k : Fin 1024, rms v g k * wg (ix2 k f)) (∑ k : Fin 1024, rms v g k * wu (ix2 k f)) * wd (ix2 f d)

/-- The feed-forward layer, as an array. -/
def ffn (x : Mat 17408 1024) (g : Row 1024) (wg wu : Mat 1024 2816) (wd : Mat 2816 1024) : Mat 17408 1024 :=
  fun i => ffnRow (fun j => x (ix2 (i 0) j)) (fun j => g (ix1 j)) wg wu wd (i 1)

/-- The normed rows, as an array. -/
def normed (x : Mat 17408 1024) (g : Row 1024) : Mat 17408 1024 :=
  fun i => rms (fun j => x (ix2 (i 0) j)) (fun j => g (ix1 j)) (i 1)

/-- Entry `d` of the normed row `v` times the weight `w`. -/
def projRow {n : ℕ} (v g : Fin 1024 → EReal) (w : Mat 1024 n) (d : Fin n) : EReal :=
  ∑ k : Fin 1024, rms v g k * w (ix2 k d)

/-- The normed rows times a square weight, as an array. -/
def proj (x : Mat 17408 1024) (g : Row 1024) (w : Mat 1024 1024) : Mat 17408 1024 :=
  fun i => projRow (fun j => x (ix2 (i 0) j)) (fun j => g (ix1 j)) w (i 1)

/-- Entry `(r, c)` of the even layers' projection, whose 3360 columns are, in order, the delta rule's operands (1536), its
    two gates (4 and 4), the output gate (512), the sparse attention's queries (512), its keys and values (768), and its
    branch gates (24). -/
def abAt (x : Mat 17408 1024) (g : Row 1024) (w : Mat 1024 3360) (r : Fin 17408) (c : Fin 3360) : EReal :=
  projRow (fun j => x (ix2 r j)) (fun j => g (ix1 j)) w c

/-- The delta rule's operands: columns 0 to 1535 of the projection. -/
def abQkv (x : Mat 17408 1024) (g : Row 1024) (w : Mat 1024 3360) : Mat 17408 1536 :=
  fun i => abAt x g w (i 0) ⟨(i 1).val, (i 1).isLt.trans (by decide)⟩

/-- The sparse attention's keys and values: columns 2568 to 3335, the selected and the windowed ones (four times 128)
    before the compressed ones (twice 128), which the projection has first. -/
def abNkv (x : Mat 17408 1024) (g : Row 1024) (w : Mat 1024 3360) : Mat 17408 768 :=
  fun i => if h : (i 1).val < 512 then abAt x g w (i 0) ⟨2824 + (i 1).val, by omega⟩
    else abAt x g w (i 0) ⟨2568 + ((i 1).val - 512), by have := (i 1).isLt; change (i 1).val < 768 at this; omega⟩

/-- The output gate: columns 1544 to 2055. -/
def abGate (x : Mat 17408 1024) (g : Row 1024) (w : Mat 1024 3360) : Mat 17408 512 :=
  fun i => abAt x g w (i 0) ⟨1544 + (i 1).val, by have := (i 1).isLt; change (i 1).val < 512 at this; omega⟩

/-- The sparse attention's queries: columns 2056 to 2567. -/
def abNq (x : Mat 17408 1024) (g : Row 1024) (w : Mat 1024 3360) : Mat 17408 512 :=
  fun i => abAt x g w (i 0) ⟨2056 + (i 1).val, by have := (i 1).isLt; change (i 1).val < 512 at this; omega⟩

/-- The small gates side by side: the delta rule's two (columns 1536 to 1543), the sparse attention's (columns 3336 to
    3359), and zeros to the width 128. -/
def abSmall (x : Mat 17408 1024) (g : Row 1024) (w : Mat 1024 3360) : Mat 17408 128 :=
  fun i => if h : (i 1).val < 8 then abAt x g w (i 0) ⟨1536 + (i 1).val, by omega⟩
    else if h' : (i 1).val < 32 then abAt x g w (i 0) ⟨3336 + ((i 1).val - 8), by omega⟩
    else 0

/-- A matrix of extended reals that the program holds in the narrow format, of literal extents. -/
abbrev MatH (a b : ℕ) := FVec Ideal ⟨2, ![a, b]⟩ .bf16

/-- The rows of two arrays, the second's after the first's. -/
def rows {n : ℕ} (p : Fin 16384 → Fin n → EReal) (s : Fin 1024 → Fin n → EReal) (r : Fin 17408) (d : Fin n) : EReal :=
  if h : r.val < 16384 then p ⟨r.val, h⟩ d else s ⟨r.val - 16384, by omega⟩ d

/-- The gated entry of the value `a` and the gate's entry `b`: `a · 1/(1 + exp(-b))`. -/
def gated (a b : EReal) : EReal :=
  a * Ideal.div (Ideal.ofBits .f32 0x3F800000#32) (Ideal.ofBits .f32 0x3F800000#32 + Ideal.exp (-b))

/-- Entry `d` of the odd layers' output row: the residual row `x` plus the gated product of the row `y` with the two halves
    of `wg`, times the output weight. -/
def gluRow (x y : Fin 1024 → EReal) (wg : Mat 1024 2048) (wo : Mat 1024 1024) (d : Fin 1024) : EReal :=
  x d + ∑ f : Fin 1024, gated (∑ k : Fin 1024, y k * wg (ix2 k ⟨f.val, by omega⟩))
    (∑ k : Fin 1024, y k * wg (ix2 k ⟨1024 + f.val, by omega⟩)) * wo (ix2 f d)

/-- The odd layers' output, as an array. -/
def glu (yp : MatH 16384 1024) (ys : MatH 1024 1024) (wg : Mat 1024 2048) (wo : Mat 1024 1024) (x : Mat 17408 1024) : Mat 17408 1024 :=
  fun i => gluRow (fun j => x (ix2 (i 0) j)) (rows (fun r k => yp (ix2 r k)) (fun r k => ys (ix2 r k)) (i 0)) wg wo (i 1)

/-- Entry `d` of the even layers' output row: the residual entry plus the delta rule's row `a` times the weight's upper half
    and the sparse attention's row `b` times its lower half. -/
def outRow (x : EReal) (a b : Fin 512 → EReal) (w : Mat 1024 1024) (d : Fin 1024) : EReal :=
  x + ((∑ k : Fin 512, a k * w (ix2 ⟨k.val, by omega⟩ d)) + ∑ k : Fin 512, b k * w (ix2 ⟨512 + k.val, by omega⟩ d))

/-- The even layers' output, as an array. -/
def outp (ap : Mat 16384 512) (az : Mat 1024 512) (bp : Mat 16384 512) (bs : Mat 1024 512) (w : Mat 1024 1024) (x : Mat 17408 1024) :
    Mat 17408 1024 :=
  fun i => outRow (x i) (rows (fun r k => ap (ix2 r k)) (fun r k => az (ix2 r k)) (i 0))
    (rows (fun r k => bp (ix2 r k)) (fun r k => bs (ix2 r k)) (i 0)) w (i 1)

end Cert.Spec
-- ==== Proof.AttnRef.lean ====
module

public import proofs.«01_k».proof.Proof.Gen.ReferenceIdeal.Run
public import proofs.«01_k».proof.Proof.Spec
public import Idealize.ShloMosaic.Lib.Tactic.CleanTypes

@[expose] public section

set_option maxRecDepth 16384
set_option maxHeartbeats 400000

noncomputable section

open Idealize.ShloMosaic Idealize.ShloMosaic.TcCoe Idealize.SL.Sem

namespace Cert.Attn

open Cert.ReferenceIdeal Cert.ReferenceIdeal.Gen

/-- The prompt rows as two batch entries. -/
def rX (x : FVec Ideal S17408x1024 .f32) : FVec Ideal S2x8192x1024 .f32 :=
  shapeCast _ (extractStridedSlice S16384x1024 ![0, 0] x slices_S17408x1024_S16384x1024_0_0) shapeCasts_S16384x1024_S2x8192x1024

/-- The queries. -/
def rQ (X : FVec Ideal S2x8192x1024 .f32) (g : FVec Ideal S1024 .f32) (wq : FVec Ideal S1024x1024 .f32) : FVec Ideal S2x8192x1024 .f32 :=
  Host.dotGeneral dot_S2x8192x1024_S1024x1024_S2x8192x1024_2_0_01_1_n_n none (mulf (mulf X (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf X X) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) wq

/-- The scaled scores. -/
def rS (q : FVec Ideal S2x8192x1024 .f32) (kv : FVec Ideal S4x512x2048 .f32) : FVec Ideal S2x4x8192x256 .f32 :=
  mulf (Host.dotGeneral dot_S2x8192x4x256_S2x256x4x256_S2x4x8192x256_3_3_1_1_02_02 none (shapeCast _ q shapeCasts_S2x8192x1024_S2x8192x4x256) (shapeCast _ (shapeCast _ (extractStridedSlice S1x512x1024 ![0, 0, 0] kv slices_S4x512x2048_S1x512x1024_0_0_0) shapeCasts_S1x512x1024_S512x1024) shapeCasts_S512x1024_S2x256x4x256)) (broadcastInDim S2x4x8192x256 ![] bcast_S_S2x4x8192x256 (constant S_ .f32 0x3D800000#32))

/-- The maxima of the rows of the scores. -/
def rM (s : FVec Ideal S2x4x8192x256 .f32) : FVec Ideal S2x4x8192 .f32 :=
  Host.reduce FloatOps.maximumf s (constant S_ .f32 0xFF800000#32) reducesTo_S2x4x8192x256_S2x4x8192_d3 h_S_

/-- The same, under a maximum with minus infinity. -/
def rN (M : FVec Ideal S2x4x8192 .f32) : FVec Ideal S2x4x8192 .f32 :=
  maximumf (broadcastInDim S2x4x8192 ![] bcast_S_S2x4x8192 (constant S_ .f32 0xFF800000#32)) M

/-- The scores less their row's maximum. -/
def rD (s : FVec Ideal S2x4x8192x256 .f32) (M : FVec Ideal S2x4x8192 .f32) : FVec Ideal S2x4x8192x256 .f32 :=
  subf s (broadcastInDim S2x4x8192x256 ![0, 1, 2, 3] bcast_S2x4x8192x1_S2x4x8192x256_0_1_2_3 (broadcastInDim S2x4x8192x1 ![0, 1, 2] bcast_S2x4x8192_S2x4x8192x1_0_1_2 M))

/-- The exponentials of the scores less their row's maximum. -/
def rE (s : FVec Ideal S2x4x8192x256 .f32) : FVec Ideal S2x4x8192x256 .f32 :=
  Host.exp (rD s (rN (rM s)))

/-- The softmax from the exponentials. -/
def rP (e : FVec Ideal S2x4x8192x256 .f32) : FVec Ideal S2x4x8192x256 .f32 :=
  Host.divf e (broadcastInDim S2x4x8192x256 ![0, 1, 2, 3] bcast_S2x4x8192x1_S2x4x8192x256_0_1_2_3 (broadcastInDim S2x4x8192x1 ![0, 1, 2] bcast_S2x4x8192_S2x4x8192x1_0_1_2 (Host.reduceAdd e (constant S_ .f32 0x00000000#32) reducesTo_S2x4x8192x256_S2x4x8192_d3 h_S_)))

/-- The mixed values, the heads side by side. -/
def rO (p : FVec Ideal S2x4x8192x256 .f32) (kv : FVec Ideal S4x512x2048 .f32) : FVec Ideal S2x8192x1024 .f32 :=
  shapeCast _ (transpose S2x8192x4x256 [0, 3, 1, 2] (Host.dotGeneral dot_S2x256x4x256_S2x4x8192x256_S2x4x256x8192_1_3_3_2_02_01 none (shapeCast _ (shapeCast _ (extractStridedSlice S1x512x1024 ![0, 0, 1024] kv slices_S4x512x2048_S1x512x1024_0_0_1024) shapeCasts_S1x512x1024_S512x1024) shapeCasts_S512x1024_S2x256x4x256) p) transposes_S2x4x256x8192_S2x8192x4x256_0_3_1_2) shapeCasts_S2x8192x4x256_S2x8192x1024

/-- The result: the prompt rows plus the mixed values times the output weight, then the other rows. -/
def rF (x : FVec Ideal S17408x1024 .f32) (X : FVec Ideal S2x8192x1024 .f32) (o : FVec Ideal S2x8192x1024 .f32) (wo : FVec Ideal S1024x1024 .f32) : FVec Ideal S17408x1024 .f32 :=
  concatenate S17408x1024 0 [⟨S16384x1024, shapeCast _ (addf X (Host.dotGeneral dot_S2x8192x1024_S1024x1024_S2x8192x1024_2_0_01_1_n_n none o wo)) shapeCasts_S2x8192x1024_S16384x1024⟩, ⟨S1024x1024, extractStridedSlice S1024x1024 ![16384, 0] x slices_S17408x1024_S1024x1024_16384_0⟩] concatenates_S16384x1024_S1024x1024_S17408x1024_d0

/-- Entry of the prompt's rows. -/
theorem rX_apply (x) (b : Fin 2) (i : Fin 8192) (d : Fin 1024) :
    rX x (ix3 b i d) = x (ix2 ⟨b.val * 8192 + i.val, by omega⟩ d) := by
  pointwise [rX]

/-- Entry of the queries. -/
theorem rQ_apply (X g wq) (b : Fin 2) (i : Fin 8192) (d : Fin 1024) :
    rQ X g wq (ix3 b i d) = Cert.Spec.qry (fun j => X (ix3 b i j)) (fun j => g (ix1 j)) wq d := by
  unfold Cert.Spec.qry Cert.Spec.rms
  pointwise [rQ]
  try rfl

/-- Entry of the scores. -/
theorem rS_apply (q kv) (b : Fin 2) (h : Fin 4) (i : Fin 8192) (n : Fin 256) :
    rS q kv (ix4 b h i n) = Cert.Spec.score (fun j => q (ix3 b i j))
      (fun n e => kv (ix3 0 ⟨b.val * 256 + n.val, by omega⟩ ⟨e.val, by omega⟩)) h n := by
  unfold Cert.Spec.score
  pointwise [rS]
  try rfl

/-- A maximum with minus infinity is the other operand. -/
theorem max_neg_inf (a : EReal) : max (Ideal.ofBits .f32 0xFF800000#32) a = a := by
  rw [show Ideal.ofBits .f32 0xFF800000#32 = (⊥ : EReal) by simp [Ideal.ofBits, Ideal.ieee]]
  exact max_eq_right bot_le

/-- Entry of the row maxima. -/
theorem rM_apply (s) (b : Fin 2) (h : Fin 4) (i : Fin 8192) :
    rM s (ix3 b h i) = Finset.univ.fold max (Ideal.ofBits .f32 0xFF800000#32) (fun n => s (ix4 b h i n)) := by
  pointwise [rM]

/-- Entry of the row maxima under the maximum with minus infinity: the row maxima. -/
theorem rN_apply (M) (b : Fin 2) (h : Fin 4) (i : Fin 8192) :
    rN M (ix3 b h i) = M (ix3 b h i) := by
  refine Eq.trans ?_ (max_neg_inf _)
  pointwise [rN]

/-- Entry of the scores less their row's maximum. -/
theorem rD_apply (s M) (b : Fin 2) (h : Fin 4) (i : Fin 8192) (n : Fin 256) :
    rD s M (ix4 b h i n) = (s (ix4 b h i n) - M (ix3 b h i) : EReal) := by
  pointwise [rD]

/-- Entry of the exponentials. -/
theorem rE_apply (s) (b : Fin 2) (h : Fin 4) (i : Fin 8192) (n : Fin 256) :
    rE s (ix4 b h i n) = Ideal.exp ((s (ix4 b h i n) : EReal) -
      Finset.univ.fold max (Ideal.ofBits .f32 0xFF800000#32) (fun n => s (ix4 b h i n))) := by
  rw [← rM_apply, ← rN_apply (rM s), ← rD_apply]
  rfl

/-- Entry of the softmax. -/
theorem rP_apply (e) (b : Fin 2) (h : Fin 4) (i : Fin 8192) (n : Fin 256) :
    rP e (ix4 b h i n) = Ideal.div (e (ix4 b h i n)) (∑ n : Fin 256, e (ix4 b h i n)) := by
  pointwise [rP]

/-- Entry of the mixed values. -/
theorem rO_apply (p kv) (b : Fin 2) (i : Fin 8192) (e : Fin 1024) :
    rO p kv (ix3 b i e) = ∑ n : Fin 256, p (ix4 b ⟨e.val / 256, by omega⟩ i n)
      * kv (ix3 0 ⟨b.val * 256 + n.val, by omega⟩ ⟨1024 + e.val, by omega⟩) := by
  pointwise [rO]
  exact Finset.sum_congr rfl fun n _ => mul_comm _ _

/-- Entry of the result. -/
theorem rF_apply (x X o wo) (r : Fin 17408) (d : Fin 1024) :
    rF x X o wo (ix2 r d) = if h : r.val < 16384 then
      X (ix3 ⟨r.val / 8192, by omega⟩ ⟨r.val % 8192, by omega⟩ d)
        + ∑ e : Fin 1024, o (ix3 ⟨r.val / 8192, by omega⟩ ⟨r.val % 8192, by omega⟩ e) * wo (ix2 e d)
      else x (ix2 r d) := by
  pointwise [rF]
  split
  · rfl
  · exact congrArg (fun q => x (ix2 q d)) (Fin.ext (by show 16384 + (r.val - 16384) = r.val; omega))

/-- The reference's result is `rF` of its stages. -/
theorem stages (m : (ℓ : Loc nD τ sig) → Buf (Elt Ideal) ℓ) (c : Dev nD) :
    Cert.ReferenceIdeal.Value.res_main_v44 m c
      = rF (m ((c : Thread nD τ).loc main_arg0)) (rX (m ((c : Thread nD τ).loc main_arg0)))
          (rO (rP (rE (rS (rQ (rX (m ((c : Thread nD τ).loc main_arg0))) (m ((c : Thread nD τ).loc main_arg1))
            (m ((c : Thread nD τ).loc main_arg2))) (m ((c : Thread nD τ).loc main_arg4))))) (m ((c : Thread nD τ).loc main_arg4)))
          (m ((c : Thread nD τ).loc main_arg3)) := rfl

/-- The reference's result is the cross-attention of the prompt rows. -/
theorem ref (m : (ℓ : Loc nD τ sig) → Buf (Elt Ideal) ℓ) (c : Dev nD) :
    Cert.ReferenceIdeal.Value.res_main_v44 m c
      = Cert.Spec.attn (m ((c : Thread nD τ).loc main_arg0)) (m ((c : Thread nD τ).loc main_arg1))
          (m ((c : Thread nD τ).loc main_arg2)) (m ((c : Thread nD τ).loc main_arg3)) (m ((c : Thread nD τ).loc main_arg4)) := by
  rw [stages]
  generalize (m ((c : Thread nD τ).loc main_arg0)) = x
  generalize (m ((c : Thread nD τ).loc main_arg1)) = g
  generalize (m ((c : Thread nD τ).loc main_arg2)) = wq
  generalize (m ((c : Thread nD τ).loc main_arg3)) = wo
  generalize (m ((c : Thread nD τ).loc main_arg4)) = kv
  funext j
  change S17408x1024.Idx at j
  idx_vars j
  refine (rF_apply x _ _ wo j0 j1).trans ?_
  unfold Cert.Spec.attn Cert.Spec.attnRow Cert.Spec.mix Cert.Spec.soft
  have er : ∀ h : j0.val / 8192 * 8192 + j0.val % 8192 < 17408, (⟨j0.val / 8192 * 8192 + j0.val % 8192, h⟩ : Fin 17408) = j0 :=
    fun h => Fin.ext (by dsimp; omega)
  by_cases h : j0.val < 16384
  · have h' : ((ix2 j0 j1 : S17408x1024.Idx) 0).val < 16384 := h
    rw [dif_pos h, dif_pos h']
    simp only [rO_apply, rP_apply, rE_apply, rS_apply, rQ_apply, rX_apply, er]
    rfl
  · have h' : ¬ ((ix2 j0 j1 : S17408x1024.Idx) 0).val < 16384 := h
    rw [dif_neg h, dif_neg h']

end Cert.Attn
-- ==== Proof.AttnBody.lean ====
module

public import proofs.«01_k».proof.Proof.Gen.KernelIdeal.Value
public import proofs.«01_k».proof.Proof.Spec

@[expose] public section

set_option maxRecDepth 16384
set_option maxHeartbeats 400000

noncomputable section

open Idealize.ShloMosaic Idealize.ShloMosaic.TcCoe Idealize.SL.Sem
open Idealize.ShloMosaic.Pipeline (Dat)

namespace Cert.Attn

open Cert.KernelIdeal Cert.KernelIdeal.Gen

/-- A product of sums is scaled by a non-negative real factor by factor. -/
theorem sum_scaled {n : ℕ} (a b : Fin n → EReal) (s : EReal) (h0 : 0 ≤ s) (ht : s ≠ ⊤) :
    ∑ j, a j * s * b j = (∑ j, a j * b j) * s := by
  have e : ∀ j, a j * s * b j = (a j * b j) * s := fun j => mul_right_comm _ _ _
  simp only [e]
  have hs : ∀ t : Finset (Fin n), ∑ j ∈ t, (a j * b j) * s = (∑ j ∈ t, a j * b j) * s := by
    intro t
    induction t using Finset.induction_on with
    | empty => simp
    | insert i t hi ih => rw [Finset.sum_insert hi, Finset.sum_insert hi, ih, EReal.right_distrib_of_nonneg_of_ne_top h0 ht]
  exact hs _

/-- The pattern of one sixteenth. -/
theorem sixteenth : Ideal.ofBits .f32 0x3D800000#32 = (((1 : ℝ) / 16 : ℝ) : EReal) := by
  simp [Ideal.ofBits, Ideal.ieee, -EReal.coe_mul]; norm_num

/-- The scores of a head whose query was scaled first. -/
theorem score_eq (q : Fin 1024 → EReal) (K : Fin 256 → Fin 1024 → EReal) (h : Fin 4) (n : Fin 256) :
    (∑ j : Fin 256, q ⟨h.val * 256 + j.val, by omega⟩ * Ideal.ofBits .f32 0x3D800000#32 * K n ⟨h.val * 256 + j.val, by omega⟩)
      = Cert.Spec.score q K h n := by
  unfold Cert.Spec.score
  rw [sixteenth]
  exact sum_scaled (fun j : Fin 256 => q ⟨h.val * 256 + j.val, by omega⟩) (fun j : Fin 256 => K n ⟨h.val * 256 + j.val, by omega⟩) _
    (by exact_mod_cast (by norm_num : (0:ℝ) ≤ 1 / 16)) (EReal.coe_ne_top _)

variable (x : FVec Ideal S512x1024 .f32) (g : FVec Ideal S1x1024 .f32) (wq : FVec Ideal S1024x1024 .bf16)

/-- The queries of row `r` of the block. -/
def q (r : Fin 512) : Fin 1024 → EReal := Cert.Spec.qry (fun j => x (ix2 r j)) (fun j => g (ix2 0 j)) wq

/-- Head 1's queries, scaled. -/
theorem pay3_apply (r : Fin 512) (j : Fin 256) : k0_pay3 (F := Ideal) x g wq (ix2 r j) = q x g wq r ⟨1 * 256 + j.val, by omega⟩ * Ideal.ofBits .f32 0x3D800000#32 := by
  unfold q Cert.Spec.qry Cert.Spec.rms
  pointwise [k0_pay3, k0_pay2]

/-- Head 2's queries, scaled. -/
theorem pay4_apply (r : Fin 512) (j : Fin 256) : k0_pay4 (F := Ideal) x g wq (ix2 r j) = q x g wq r ⟨2 * 256 + j.val, by omega⟩ * Ideal.ofBits .f32 0x3D800000#32 := by
  unfold q Cert.Spec.qry Cert.Spec.rms
  pointwise [k0_pay4, k0_pay2]

/-- Head 3's queries, scaled. -/
theorem pay5_apply (r : Fin 512) (j : Fin 256) : k0_pay5 (F := Ideal) x g wq (ix2 r j) = q x g wq r ⟨3 * 256 + j.val, by omega⟩ * Ideal.ofBits .f32 0x3D800000#32 := by
  unfold q Cert.Spec.qry Cert.Spec.rms
  pointwise [k0_pay5, k0_pay2]

/-- Head 0's scores. -/
theorem pay6_apply (K : FVec Ideal S1x256x256 .f32) (r : Fin 512) (n : Fin 256) : k0_pay6 (F := Ideal) x g wq K (ix2 r n)
    = ∑ j : Fin 256, q x g wq r ⟨0 * 256 + j.val, by omega⟩ * Ideal.ofBits .f32 0x3D800000#32 * K (ix3 0 n j) := by
  unfold q Cert.Spec.qry Cert.Spec.rms
  pointwise [k0_pay6, k0_pay2]

/-- The shifted exponentials of a head's scores. -/
theorem pay7_apply (a : FVec Ideal S512x256 .bf16) (K : FVec Ideal S1x256x256 .f32) (r : Fin 512) (n : Fin 256) : k0_pay7 a K (ix2 r n)
    = Ideal.exp ((∑ j : Fin 256, a (ix2 r j) * K (ix3 0 n j)) - Finset.univ.fold max (Ideal.ofBits .f32 0xFF800000#32) (fun n : Fin 256 => ∑ j : Fin 256, a (ix2 r j) * K (ix3 0 n j))) := by
  pointwise [k0_pay7]

/-- The shifted exponentials of a head's scores. -/
theorem pay8_apply (a : FVec Ideal S512x256 .bf16) (K : FVec Ideal S1x256x256 .f32) (r : Fin 512) (n : Fin 256) : k0_pay8 a K (ix2 r n)
    = Ideal.exp ((∑ j : Fin 256, a (ix2 r j) * K (ix3 0 n j)) - Finset.univ.fold max (Ideal.ofBits .f32 0xFF800000#32) (fun n : Fin 256 => ∑ j : Fin 256, a (ix2 r j) * K (ix3 0 n j))) := by
  pointwise [k0_pay8]

/-- The softmax of given scores. -/
theorem pay9_apply (s : FVec Ideal S512x256 .f32) (r : Fin 512) (n : Fin 256) : k0_pay9 s (ix2 r n) = Cert.Spec.soft (fun n => s (ix2 r n)) n := by
  unfold Cert.Spec.soft
  pointwise [k0_pay9]

/-- The softmax of a head's scores. -/
theorem pay10_apply (a : FVec Ideal S512x256 .bf16) (K : FVec Ideal S1x256x256 .f32) (r : Fin 512) (n : Fin 256) : k0_pay10 a K (ix2 r n)
    = Cert.Spec.soft (fun n => ∑ j : Fin 256, a (ix2 r j) * K (ix3 0 n j)) n := by
  unfold Cert.Spec.soft
  pointwise [k0_pay10]

/-- The row plus the mixed heads, joined, times the output weight. -/
theorem pay1_apply (p2 p3 : FVec Ideal S512x256 .f32) (p0 p1 : FVec Ideal S512x256 .bf16) (V0 V1 V2 V3 : FVec Ideal S1x256x256 .f32)
    (wo : FVec Ideal S1024x1024 .bf16) (r : Fin 512) (d : Fin 1024) :
    k0_pay1 x p2 p3 p0 p1 V0 V1 V2 V3 wo (ix2 r d) = x (ix2 r d) + ∑ e : Fin 1024,
      (if h0 : e.val < 256 then ∑ n : Fin 256, p0 (ix2 r n) * V0 (ix3 0 n ⟨e.val, h0⟩)
       else if h1 : e.val - 256 < 256 then ∑ n : Fin 256, p1 (ix2 r n) * V1 (ix3 0 n ⟨e.val - 256, h1⟩)
       else if h2 : e.val - 256 - 256 < 256 then ∑ n : Fin 256, Ideal.div (p2 (ix2 r n)) (∑ i : Fin 256, p2 (ix2 r i)) * V2 (ix3 0 n ⟨e.val - 256 - 256, h2⟩)
       else ∑ n : Fin 256, Ideal.div (p3 (ix2 r n)) (∑ i : Fin 256, p3 (ix2 r i)) * V3 (ix3 0 n ⟨e.val - 256 - 256 - 256, by omega⟩)) * wo (ix2 e d) := by
  pointwise [k0_pay1]

/-- A softmax weight spelled by its shifted exponentials. -/
theorem soft_div (s : Fin 256 → EReal) (e : Fin 256 → EReal) (h : ∀ n, e n = Ideal.exp (s n - Finset.univ.fold max (Ideal.ofBits .f32 0xFF800000#32) s)) (n : Fin 256) :
    Ideal.div (e n) (∑ i, e i) = Cert.Spec.soft s n := by
  unfold Cert.Spec.soft
  simp only [h]

/-- The scores of one head from its scaled queries and its keys. -/
theorem head_score (Q : Fin 1024 → EReal) (K : Fin 256 → Fin 1024 → EReal) (h : Fin 4) (a : Fin 256 → EReal) (k : Fin 256 → Fin 256 → EReal)
    (ha : ∀ j : Fin 256, a j = Q ⟨h.val * 256 + j.val, by omega⟩ * Ideal.ofBits .f32 0x3D800000#32)
    (hk : ∀ n j : Fin 256, k n j = K n ⟨h.val * 256 + j.val, by omega⟩) (n : Fin 256) :
    ∑ j : Fin 256, a j * k n j = Cert.Spec.score Q K h n := by
  rw [← score_eq]
  exact Finset.sum_congr rfl fun j _ => by rw [ha, hk]

/-- One row of the block the kernel stores is the attention's row. -/
theorem body (x : FVec Ideal S512x1024 .f32) (g : FVec Ideal S1x1024 .f32) (wq wo : FVec Ideal S1024x1024 .bf16)
    (K V : FVec Ideal S1x256x1024 .f32) (K0 K1 K2 K3 V0 V1 V2 V3 : FVec Ideal S1x256x256 .f32)
    (hK0 : ∀ n j : Fin 256, K0 (ix3 0 n j) = K (ix3 0 n ⟨0 * 256 + j.val, by omega⟩))
    (hK1 : ∀ n j : Fin 256, K1 (ix3 0 n j) = K (ix3 0 n ⟨1 * 256 + j.val, by omega⟩))
    (hK2 : ∀ n j : Fin 256, K2 (ix3 0 n j) = K (ix3 0 n ⟨2 * 256 + j.val, by omega⟩))
    (hK3 : ∀ n j : Fin 256, K3 (ix3 0 n j) = K (ix3 0 n ⟨3 * 256 + j.val, by omega⟩))
    (hV0 : ∀ n j : Fin 256, V0 (ix3 0 n j) = V (ix3 0 n ⟨0 * 256 + j.val, by omega⟩))
    (hV1 : ∀ n j : Fin 256, V1 (ix3 0 n j) = V (ix3 0 n ⟨1 * 256 + j.val, by omega⟩))
    (hV2 : ∀ n j : Fin 256, V2 (ix3 0 n j) = V (ix3 0 n ⟨2 * 256 + j.val, by omega⟩))
    (hV3 : ∀ n j : Fin 256, V3 (ix3 0 n j) = V (ix3 0 n ⟨3 * 256 + j.val, by omega⟩))
    (r : Fin 512) (d : Fin 1024) :
    k0_pay1 (F := Ideal) x (k0_pay7 (F := Ideal) (k0_pay4 x g wq) K2) (k0_pay8 (F := Ideal) (k0_pay5 x g wq) K3) (k0_pay9 (F := Ideal) (k0_pay6 x g wq K0)) (k0_pay10 (F := Ideal) (k0_pay3 x g wq) K1) V0 V1 V2 V3 wo (ix2 r d)
      = Cert.Spec.attnRow (fun j => x (ix2 r j)) (fun j => g (ix2 0 j)) wq wo (fun n e => K (ix3 0 n e)) (fun n e => V (ix3 0 n e)) d := by
  rw [pay1_apply]
  unfold Cert.Spec.attnRow
  have s0 : ∀ n, k0_pay6 (F := Ideal) x g wq K0 (ix2 r n) = Cert.Spec.score (q x g wq r) (fun n e => K (ix3 0 n e)) 0 n := fun n => by
    rw [pay6_apply]; exact head_score _ _ 0 _ (fun n j => K0 (ix3 0 n j)) (fun j => rfl) hK0 n
  have s1 : ∀ n, ∑ j : Fin 256, k0_pay3 (F := Ideal) x g wq (ix2 r j) * K1 (ix3 0 n j) = Cert.Spec.score (q x g wq r) (fun n e => K (ix3 0 n e)) 1 n := fun n =>
    head_score _ _ 1 _ (fun n j => K1 (ix3 0 n j)) (pay3_apply x g wq r) hK1 n
  have s2 : ∀ n, ∑ j : Fin 256, k0_pay4 (F := Ideal) x g wq (ix2 r j) * K2 (ix3 0 n j) = Cert.Spec.score (q x g wq r) (fun n e => K (ix3 0 n e)) 2 n := fun n =>
    head_score _ _ 2 _ (fun n j => K2 (ix3 0 n j)) (pay4_apply x g wq r) hK2 n
  have s3 : ∀ n, ∑ j : Fin 256, k0_pay5 (F := Ideal) x g wq (ix2 r j) * K3 (ix3 0 n j) = Cert.Spec.score (q x g wq r) (fun n e => K (ix3 0 n e)) 3 n := fun n =>
    head_score _ _ 3 _ (fun n j => K3 (ix3 0 n j)) (pay5_apply x g wq r) hK3 n
  have p0 : ∀ n, k0_pay9 (F := Ideal) (k0_pay6 x g wq K0) (ix2 r n) = Cert.Spec.soft (Cert.Spec.score (q x g wq r) (fun n e => K (ix3 0 n e)) 0) n := fun n => by
    rw [pay9_apply]; simp only [s0]
  have p1 : ∀ n, k0_pay10 (F := Ideal) (k0_pay3 x g wq) K1 (ix2 r n) = Cert.Spec.soft (Cert.Spec.score (q x g wq r) (fun n e => K (ix3 0 n e)) 1) n := fun n => by
    rw [pay10_apply]; simp only [s1]
  have p2 : ∀ n, Ideal.div (k0_pay7 (F := Ideal) (k0_pay4 x g wq) K2 (ix2 r n)) (∑ i : Fin 256, k0_pay7 (F := Ideal) (k0_pay4 x g wq) K2 (ix2 r i)) = Cert.Spec.soft (Cert.Spec.score (q x g wq r) (fun n e => K (ix3 0 n e)) 2) n := fun n =>
    soft_div _ (fun i => k0_pay7 (F := Ideal) (k0_pay4 x g wq) K2 (ix2 r i)) (fun n => by show k0_pay7 (F := Ideal) _ _ _ = _; rw [pay7_apply]; simp only [s2]) n
  have p3 : ∀ n, Ideal.div (k0_pay8 (F := Ideal) (k0_pay5 x g wq) K3 (ix2 r n)) (∑ i : Fin 256, k0_pay8 (F := Ideal) (k0_pay5 x g wq) K3 (ix2 r i)) = Cert.Spec.soft (Cert.Spec.score (q x g wq r) (fun n e => K (ix3 0 n e)) 3) n := fun n =>
    soft_div _ (fun i => k0_pay8 (F := Ideal) (k0_pay5 x g wq) K3 (ix2 r i)) (fun n => by show k0_pay8 (F := Ideal) _ _ _ = _; rw [pay8_apply]; simp only [s3]) n
  refine congrArg (x (ix2 r d) + ·) (Finset.sum_congr rfl fun e _ => congrArg (· * _) ?_)
  simp only [p0, p1, p2, p3]
  unfold Cert.Spec.mix
  by_cases h0 : e.val < 256
  · rw [dif_pos h0]
    refine Finset.sum_congr rfl fun n _ => ?_
    rw [hV0]
    have a : (⟨e.val / 256, by omega⟩ : Fin 4) = 0 := Fin.ext (by show e.val / 256 = 0; omega)
    have b : (⟨0 * 256 + e.val, by omega⟩ : Fin 1024) = e := Fin.ext (by show 0 * 256 + e.val = e.val; omega)
    rw [a]; simp only [b]; rfl
  · rw [dif_neg h0]
    by_cases h1 : e.val - 256 < 256
    · rw [dif_pos h1]
      refine Finset.sum_congr rfl fun n _ => ?_
      rw [hV1]
      have a : (⟨e.val / 256, by omega⟩ : Fin 4) = 1 := Fin.ext (by show e.val / 256 = 1; omega)
      have b : (⟨1 * 256 + (e.val - 256), by omega⟩ : Fin 1024) = e := Fin.ext (by show 1 * 256 + (e.val - 256) = e.val; omega)
      rw [a]; simp only [b]; rfl
    · rw [dif_neg h1]
      by_cases h2 : e.val - 256 - 256 < 256
      · rw [dif_pos h2]
        refine Finset.sum_congr rfl fun n _ => ?_
        rw [hV2]
        have a : (⟨e.val / 256, by omega⟩ : Fin 4) = 2 := Fin.ext (by show e.val / 256 = 2; omega)
        have b : (⟨2 * 256 + (e.val - 256 - 256), by omega⟩ : Fin 1024) = e := Fin.ext (by show 2 * 256 + (e.val - 256 - 256) = e.val; omega)
        rw [a]; simp only [b]; rfl
      · rw [dif_neg h2]
        refine Finset.sum_congr rfl fun n _ => ?_
        rw [hV3]
        have a : (⟨e.val / 256, by omega⟩ : Fin 4) = 3 := Fin.ext (by show e.val / 256 = 3; omega)
        have b : (⟨3 * 256 + (e.val - 256 - 256 - 256), by omega⟩ : Fin 1024) = e := Fin.ext (by show 3 * 256 + (e.val - 256 - 256 - 256) = e.val; omega)
        rw [a]; simp only [b]; rfl

end Cert.Attn
-- ==== Proof.AttnValue.lean ====
module

public import proofs.«01_k».proof.Proof.Gen.KernelIdeal.Value
public import proofs.«01_k».proof.Proof.AttnBody

@[expose] public section

set_option maxRecDepth 16384
set_option maxHeartbeats 400000

noncomputable section

open Idealize.ShloMosaic Idealize.ShloMosaic.TcCoe Idealize.SL.Sem
open Idealize.ShloMosaic.Pipeline (Dat)

namespace Cert.Attn

open Cert.KernelIdeal Cert.KernelIdeal.Gen

/-- Head 0 of a block of keys or values. -/
theorem ld3 (K : Vec Ideal S1x256x1024 .f32) (n j : Fin 256) : (View.ld K r0_3 : Vec Ideal S1x256x256 .f32) (ix3 0 n j) = K (ix3 0 n ⟨0 * 256 + j.val, by omega⟩) := by
  pointwise

/-- Head 1 of a block of keys or values. -/
theorem ld4 (K : Vec Ideal S1x256x1024 .f32) (n j : Fin 256) : (View.ld K r0_4 : Vec Ideal S1x256x256 .f32) (ix3 0 n j) = K (ix3 0 n ⟨1 * 256 + j.val, by omega⟩) := by
  pointwise

/-- Head 2 of a block of keys or values. -/
theorem ld5 (K : Vec Ideal S1x256x1024 .f32) (n j : Fin 256) : (View.ld K r0_5 : Vec Ideal S1x256x256 .f32) (ix3 0 n j) = K (ix3 0 n ⟨2 * 256 + j.val, by omega⟩) := by
  pointwise

/-- Head 3 of a block of keys or values. -/
theorem ld6 (K : Vec Ideal S1x256x1024 .f32) (n j : Fin 256) : (View.ld K r0_6 : Vec Ideal S1x256x256 .f32) (ix3 0 n j) = K (ix3 0 n ⟨3 * 256 + j.val, by omega⟩) := by
  pointwise

variable (m : (ℓ : Loc nD τ sig) → Buf (Elt Ideal) ℓ)

/-- Every window's block index at every grid point. -/
theorem idx_val : ∀ t : Fin cfg0.N, win0_0.index t = ![t.val, 0]
    ∧ win0_1.index t = ![0, 0]
    ∧ win0_2.index t = ![0, 0]
    ∧ win0_3.index t = ![0, 0]
    ∧ win0_4.index t = ![0, t.val / 16, 0]
    ∧ win0_5.index t = ![0, t.val / 16, 1]
    ∧ win0_6.index t = ![t.val, 0] :=
  (by decide +kernel : ∀ t : Fin grid0.N, _)

/-- The block of keys at grid point `t` holds the keys of the batch entry of the point's rows. -/
theorem keys (c : Dev nD) (t : Fin cfg0.N) (a : ℕ) (h : a < 16384) (r : Fin 512) (ha : a = t.val * 512 + r.val) (n : Fin 256) (e : Fin 1024) :
    iblk m c 4 t (ix3 0 n e) = m ((c : Thread nD τ).loc main_arg4) (ix3 0 ⟨a / 8192 * 256 + n.val, by omega⟩ ⟨e.val, by omega⟩) := by
  blk_ext [iblk, V, idx_val t]

/-- The block of values at grid point `t` holds the values of the batch entry of the point's rows. -/
theorem values (c : Dev nD) (t : Fin cfg0.N) (a : ℕ) (h : a < 16384) (r : Fin 512) (ha : a = t.val * 512 + r.val) (n : Fin 256) (e : Fin 1024) :
    iblk m c 5 t (ix3 0 n e) = m ((c : Thread nD τ).loc main_arg4) (ix3 0 ⟨a / 8192 * 256 + n.val, by omega⟩ ⟨1024 + e.val, by omega⟩) := by
  blk_ext [iblk, V, idx_val t]

/-- What grid point `t < 32` stores at `y` is the attention's entry at which `y` sits. -/
theorem point (c : Dev nD) (t : Fin cfg0.N) (ht : t.val < 32) (r : Fin 512) (d : Fin 1024) :
    Cert.Spec.attnRow (fun j => iblk m c 0 t (ix2 r j)) (fun j => iblk m c 1 t (ix2 0 j)) (iblk m c 2 t) (iblk m c 3 t)
        (fun n e => iblk m c 4 t (ix3 0 n e)) (fun n e => iblk m c 5 t (ix3 0 n e)) d
      = Cert.Spec.attn (m ((c : Thread nD τ).loc main_arg0)) (m ((c : Thread nD τ).loc main_arg1))
          (m ((c : Thread nD τ).loc main_arg2)) (m ((c : Thread nD τ).loc main_arg3)) (m ((c : Thread nD τ).loc main_arg4))
          (((cfg0.win 6).blk t).view.emb (ix2 r d)) := by
  have e0 : ((((cfg0.win 6).blk t).view.emb (ix2 r d)) 0).val = t.val * 512 + r.val := by blk_simp [idx_val t]
  have e1 : (((cfg0.win 6).blk t).view.emb (ix2 r d)) 1 = d := by apply Fin.ext; blk_simp [idx_val t]
  have h0 : ((((cfg0.win 6).blk t).view.emb (ix2 r d)) 0).val < 16384 := by have := r.isLt; omega
  unfold Cert.Spec.attn
  rw [dif_pos h0, e1]
  congr 1
  · funext j; blk_ext [iblk, V, idx_val t]
  · funext j
    blk_point [iblk, V, idx_val t]
  · funext j
    idx_vars j
    blk_point [iblk, V, idx_val t]
  · funext j
    idx_vars j
    blk_point [iblk, V, idx_val t]
  · funext n e; exact keys m c t _ h0 r e0 n e
  · funext n e; exact values m c t _ h0 r e0 n e

/-- The result array after the run: the attention's rows, and the other rows of the argument. -/
theorem final (c : Dev nD) : (dats m 0 c).arrAt 6 (cfgs 0).N = Cert.Spec.attn (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_coversWhere_of_agree 6 _ (fun β => β (0 : Fin _) < 32) (by decide +kernel) (fun t hf y => ?_) (fun j hj => ?_)
  · blk_simp
    rw [after0_6]; frame_out
    idx_vars y
    have ht : t.val < 32 := lt_of_lt_of_eq t.isLt (by decide)
    refine (body _ _ _ _ (iblk m c 4 t) (iblk m c 5 t) _ _ _ _ _ _ _ _ ?_ ?_ ?_ ?_ ?_ ?_ ?_ ?_ y0 y1).trans (point m c t ht y0 y1)
    · exact ld3 _
    · exact ld4 _
    · exact ld5 _
    · exact ld6 _
    · exact ld3 _
    · exact ld4 _
    · exact ld5 _
    · exact ld6 _
  · blk_simp [Pipeline.Window.cell_apply] at hj
    have h : ¬ (((cfg0.win 6).arr.view.emb j) (0 : Fin 2)).val < 16384 := by
      have : ((cfg0.win 6).arr.view.emb j) (0 : Fin 2) = j (0 : Fin 2) := rfl
      rw [this]; omega
    unfold Cert.Spec.attn
    rw [dif_neg h]
    change V m c main_v3 _ = _
    entry_read
    rfl

end Cert.Attn
-- ==== Proof.FfnRef.lean ====
module

public import proofs.«01_k».proof.Proof.Gen.Reference2Ideal.Run
public import proofs.«01_k».proof.Proof.Spec
public import Idealize.ShloMosaic.Lib.Tactic.CleanTypes

@[expose] public section

set_option maxRecDepth 16384
set_option maxHeartbeats 400000

noncomputable section

open Idealize.ShloMosaic Idealize.ShloMosaic.TcCoe Idealize.SL.Sem

namespace Cert.Ffn

open Cert.Reference2Ideal Cert.Reference2Ideal.Gen

/-- The normed rows. -/
def rH (x : FVec Ideal S17408x1024 .f32) (g : FVec Ideal S1024 .f32) : FVec Ideal S17408x1024 .f32 :=
  mulf (mulf x (broadcastInDim S17408x1024 ![0, 1] bcast_S17408x1_S17408x1024_0_1 (Host.rsqrt (addf (Host.divf (broadcastInDim S17408x1 ![0] bcast_S17408_S17408x1_0 (Host.reduceAdd (mulf x x) (constant S_ .f32 0x00000000#32) reducesTo_S17408x1024_S17408_d1 h_S_)) (broadcastInDim S17408x1 ![] bcast_S_S17408x1 (constant S_ .f32 0x44800000#32))) (broadcastInDim S17408x1 ![] bcast_S_S17408x1 (constant S_ .f32 0x358637BD#32)))))) (broadcastInDim S17408x1024 ![0, 1] bcast_S1x1024_S17408x1024_0_1 (broadcastInDim S1x1024 ![1] bcast_S1024_S1x1024_1 g))

/-- The normed rows times a weight. -/
def rA (h : FVec Ideal S17408x1024 .f32) (w : FVec Ideal S1024x2816 .f32) : FVec Ideal S17408x2816 .f32 :=
  Host.dotGeneral dot_S17408x1024_S1024x2816_S17408x2816_1_0_0_1_n_n none h w

/-- The gated activations. -/
def rS (a u : FVec Ideal S17408x2816 .f32) : FVec Ideal S17408x2816 .f32 :=
  mulf (mulf a (Host.divf (broadcastInDim S17408x2816 ![] bcast_S_S17408x2816 (constant S_ .f32 0x3F800000#32)) (addf (broadcastInDim S17408x2816 ![] bcast_S_S17408x2816 (constant S_ .f32 0x3F800000#32)) (Host.exp (Host.negf a))))) u

/-- The rows plus half the activations times the last weight. -/
def rF (x : FVec Ideal S17408x1024 .f32) (s : FVec Ideal S17408x2816 .f32) (wd : FVec Ideal S2816x1024 .f32) : FVec Ideal S17408x1024 .f32 :=
  addf x (mulf (broadcastInDim S17408x1024 ![] bcast_S_S17408x1024 (constant S_ .f32 0x3F000000#32)) (Host.dotGeneral dot_S17408x2816_S2816x1024_S17408x1024_1_0_0_1_n_n none s wd))

/-- Entry `(r, k)` of the normed rows. -/
theorem rH_apply (x) (g) (r : Fin 17408) (k : Fin 1024) : rH x g (ix2 r k) = Cert.Spec.rms (fun j => x (ix2 r j)) (fun j => g (ix1 j)) k := by
  unfold Cert.Spec.rms
  pointwise [rH]

/-- Entry `(r, f)` of the product with a weight. -/
theorem rA_apply (h) (w) (r : Fin 17408) (f : Fin 2816) : rA h w (ix2 r f) = ∑ k : Fin 1024, h (ix2 r k) * w (ix2 k f) := by
  pointwise [rA]

/-- Entry `(r, f)` of the activations. -/
theorem rS_apply (a u) (r : Fin 17408) (f : Fin 2816) : rS a u (ix2 r f) = Cert.Spec.act (a (ix2 r f)) (u (ix2 r f)) := by
  unfold Cert.Spec.act
  pointwise [rS]

/-- Entry `(r, d)` of the result. -/
theorem rF_apply (x) (s) (wd) (r : Fin 17408) (d : Fin 1024) : rF x s wd (ix2 r d)
    = x (ix2 r d) + Ideal.ofBits .f32 0x3F000000#32 * ∑ f : Fin 2816, s (ix2 r f) * wd (ix2 f d) := by
  pointwise [rF]

/-- The reference's array, from its arguments, is the feed-forward layer. -/
theorem stages (x : FVec Ideal S17408x1024 .f32) (g : FVec Ideal S1024 .f32) (wg wu : FVec Ideal S1024x2816 .f32) (wd : FVec Ideal S2816x1024 .f32) :
    rF x (rS (rA (rH x g) wg) (rA (rH x g) wu)) wd = Cert.Spec.ffn x g wg wu wd := by
  funext i
  change S17408x1024.Idx at i
  idx_vars i
  simp only [rF_apply, rS_apply, rA_apply, rH_apply]
  rfl

/-- The same with the stages spelled out, as the reference's run states it. -/
theorem ref (x : FVec Ideal S17408x1024 .f32) (g : FVec Ideal S1024 .f32) (wg wu : FVec Ideal S1024x2816 .f32) (wd : FVec Ideal S2816x1024 .f32) :
    addf x (mulf (broadcastInDim S17408x1024 ![] bcast_S_S17408x1024 (constant S_ .f32 0x3F000000#32)) (Host.dotGeneral dot_S17408x2816_S2816x1024_S17408x1024_1_0_0_1_n_n none (mulf (mulf (Host.dotGeneral dot_S17408x1024_S1024x2816_S17408x2816_1_0_0_1_n_n none (mulf (mulf x (broadcastInDim S17408x1024 ![0, 1] bcast_S17408x1_S17408x1024_0_1 (Host.rsqrt (addf (Host.divf (broadcastInDim S17408x1 ![0] bcast_S17408_S17408x1_0 (Host.reduceAdd (mulf x x) (constant S_ .f32 0x00000000#32) reducesTo_S17408x1024_S17408_d1 h_S_)) (broadcastInDim S17408x1 ![] bcast_S_S17408x1 (constant S_ .f32 0x44800000#32))) (broadcastInDim S17408x1 ![] bcast_S_S17408x1 (constant S_ .f32 0x358637BD#32)))))) (broadcastInDim S17408x1024 ![0, 1] bcast_S1x1024_S17408x1024_0_1 (broadcastInDim S1x1024 ![1] bcast_S1024_S1x1024_1 g))) wg) (Host.divf (broadcastInDim S17408x2816 ![] bcast_S_S17408x2816 (constant S_ .f32 0x3F800000#32)) (addf (broadcastInDim S17408x2816 ![] bcast_S_S17408x2816 (constant S_ .f32 0x3F800000#32)) (Host.exp (Host.negf (Host.dotGeneral dot_S17408x1024_S1024x2816_S17408x2816_1_0_0_1_n_n none (mulf (mulf x (broadcastInDim S17408x1024 ![0, 1] bcast_S17408x1_S17408x1024_0_1 (Host.rsqrt (addf (Host.divf (broadcastInDim S17408x1 ![0] bcast_S17408_S17408x1_0 (Host.reduceAdd (mulf x x) (constant S_ .f32 0x00000000#32) reducesTo_S17408x1024_S17408_d1 h_S_)) (broadcastInDim S17408x1 ![] bcast_S_S17408x1 (constant S_ .f32 0x44800000#32))) (broadcastInDim S17408x1 ![] bcast_S_S17408x1 (constant S_ .f32 0x358637BD#32)))))) (broadcastInDim S17408x1024 ![0, 1] bcast_S1x1024_S17408x1024_0_1 (broadcastInDim S1x1024 ![1] bcast_S1024_S1x1024_1 g))) wg)))))) (Host.dotGeneral dot_S17408x1024_S1024x2816_S17408x2816_1_0_0_1_n_n none (mulf (mulf x (broadcastInDim S17408x1024 ![0, 1] bcast_S17408x1_S17408x1024_0_1 (Host.rsqrt (addf (Host.divf (broadcastInDim S17408x1 ![0] bcast_S17408_S17408x1_0 (Host.reduceAdd (mulf x x) (constant S_ .f32 0x00000000#32) reducesTo_S17408x1024_S17408_d1 h_S_)) (broadcastInDim S17408x1 ![] bcast_S_S17408x1 (constant S_ .f32 0x44800000#32))) (broadcastInDim S17408x1 ![] bcast_S_S17408x1 (constant S_ .f32 0x358637BD#32)))))) (broadcastInDim S17408x1024 ![0, 1] bcast_S1x1024_S17408x1024_0_1 (broadcastInDim S1x1024 ![1] bcast_S1024_S1x1024_1 g))) wu)) wd))
      = Cert.Spec.ffn x g wg wu wd :=
  stages x g wg wu wd

end Cert.Ffn
-- ==== Proof.FfnBody.lean ====
module

public import proofs.«01_k».proof.Proof.Gen.Kernel2Ideal.Value
public import proofs.«01_k».proof.Proof.Spec

@[expose] public section

set_option maxRecDepth 16384
set_option maxHeartbeats 400000

noncomputable section

open Idealize.ShloMosaic Idealize.ShloMosaic.TcCoe Idealize.SL.Sem
open Idealize.ShloMosaic.Pipeline (Dat)

namespace Cert.Ffn

open Cert.Kernel2Ideal Cert.Kernel2Ideal.Gen

/-- The gated activation as the kernel spells it. -/
def act (a u : EReal) : EReal :=
  a * Ideal.div (Ideal.ofBits .f32 0x3F800000#32) (Ideal.ofBits .f32 0x3F800000#32 + Ideal.exp (Ideal.ofBits .f32 0x00000000#32 - a)) * u

/-- Entry `(r, f)` of the activations of one tile of 256 hidden features. -/
def hid (h : FVec Ideal S1024x1024 .bf16) (wg wu : FVec Ideal S1024x256 .bf16) (r : Fin 1024) (f : Fin 256) : EReal :=
  act (∑ k : Fin 1024, h (ix2 r k) * wg (ix2 k f)) (∑ k : Fin 1024, h (ix2 r k) * wu (ix2 k f))

/-- Entry `(r, d)` of the share of one tile of 256 hidden features. -/
def term (h : FVec Ideal S1024x1024 .bf16) (wg wu : FVec Ideal S1024x256 .bf16) (wd : FVec Ideal S256x1024 .bf16) (r d : Fin 1024) : EReal :=
  ∑ f : Fin 256, hid h wg wu r f * wd (ix2 f d)

variable (h : FVec Ideal S1024x1024 .bf16) (acc : FVec Ideal S1024x1024 .f32) (r d : Fin 1024) (f : Fin 256)

/-- The normed rows, entry by entry. -/
theorem pay2_apply (x : FVec Ideal S1024x1024 .f32) (g : FVec Ideal S1x1024 .f32) (k : Fin 1024) :
    k0_pay2 (F := Ideal) x g (ix2 r k) = Cert.Spec.rms (fun j => x (ix2 r j)) (fun j => g (ix2 0 j)) k := by
  unfold Cert.Spec.rms
  pointwise [k0_pay2]

/-- A tile of the gate weight is kept as it is. -/
theorem pay4_apply (w : FVec Ideal S1024x256 .bf16) : k0_pay4 (F := Ideal) w = w := by
  funext i; idx_vars i; pointwise [k0_pay4]

/-- A tile of the down weight is kept as it is. -/
theorem pay8_apply (w : FVec Ideal S256x1024 .bf16) : k0_pay8 (F := Ideal) w = w := by
  funext i; idx_vars i; pointwise [k0_pay8]

/-- Two further tiles added to the partial sum. -/
theorem pay5_apply (wg wu wg' wu' : FVec Ideal S1024x256 .bf16) (wd wd' : FVec Ideal S256x1024 .bf16) :
    k0_pay5 (F := Ideal) h acc wg (constant S1024x256 .f32 0x00000000#32) wu wd wg' wu' wd' (ix2 r d)
      = acc (ix2 r d) + term h wg wu wd r d + term h wg' wu' wd' r d := by
  unfold term hid act
  pointwise [k0_pay5]

/-- One further tile added to the partial sum. -/
theorem pay6_apply (wg wu : FVec Ideal S1024x256 .bf16) (wd : FVec Ideal S256x1024 .bf16) :
    k0_pay6 (F := Ideal) h acc wg wu wd (ix2 r d) = acc (ix2 r d) + term h wg wu wd r d := by
  unfold term hid act
  pointwise [k0_pay6]

/-- The activations of a tile. -/
theorem pay7_apply (wg wu : FVec Ideal S1024x256 .bf16) : k0_pay7 (F := Ideal) h wg wu (ix2 r f) = hid h wg wu r f := by
  unfold hid act
  pointwise [k0_pay7]

/-- The activations of a tile. -/
theorem pay10_apply (wg wu : FVec Ideal S1024x256 .bf16) : k0_pay10 (F := Ideal) h wg wu (ix2 r f) = hid h wg wu r f := by
  unfold hid act
  pointwise [k0_pay10]

/-- Two further tiles, the first from its activations. -/
theorem pay9_apply (p : FVec Ideal S1024x256 .bf16) (wg wu : FVec Ideal S1024x256 .bf16) (wd wd' : FVec Ideal S256x1024 .bf16) :
    k0_pay9 (F := Ideal) h acc p wd wg wu wd' (ix2 r d) = acc (ix2 r d) + (∑ f : Fin 256, p (ix2 r f) * wd (ix2 f d)) + term h wg wu wd' r d := by
  unfold term hid act
  pointwise [k0_pay9]

/-- Two further tiles, the first from its activations. -/
theorem pay11_apply (p : FVec Ideal S1024x256 .bf16) (wg wu : FVec Ideal S1024x256 .bf16) (wd wd' : FVec Ideal S256x1024 .bf16) :
    k0_pay11 (F := Ideal) h acc p wd wg wu wd' (ix2 r d) = acc (ix2 r d) + (∑ f : Fin 256, p (ix2 r f) * wd (ix2 f d)) + term h wg wu wd' r d := by
  unfold term hid act
  pointwise [k0_pay11]

/-- Two further tiles, the first from its two products. -/
theorem pay16_apply (wg8 wu8 wg wu : FVec Ideal S1024x256 .bf16) (wd wd' : FVec Ideal S256x1024 .bf16) :
    k0_pay16 (F := Ideal) h acc (k0_pay12 h wg8) (k0_pay13 h wu8) (k0_pay14 h wg8) (k0_pay15) wd wg wu wd' (ix2 r d)
      = acc (ix2 r d) + term h wg8 wu8 wd r d + term h wg wu wd' r d := by
  unfold term hid act
  pointwise [k0_pay16, k0_pay12, k0_pay13, k0_pay14, k0_pay15]

/-- The last tile, the half step and the residual. -/
theorem pay1_apply (x : FVec Ideal S1024x1024 .f32) (wg wu : FVec Ideal S1024x256 .bf16) (wd : FVec Ideal S256x1024 .bf16) :
    k0_pay1 (F := Ideal) acc (k0_pay17 h wg) (k0_pay18 h wu) (k0_pay19 h wg) (Scalar.ofBits .f32 0x3F800000#32) wd x (ix2 r d)
      = x (ix2 r d) + Ideal.ofBits .f32 0x3F000000#32 * (acc (ix2 r d) + term h wg wu wd r d) := by
  unfold term hid act
  pointwise [k0_pay1, k0_pay17, k0_pay18, k0_pay19]

/-- The first tile. -/
theorem pay3_apply (x : FVec Ideal S1024x1024 .f32) (g : FVec Ideal S1x1024 .f32) (wg wu : FVec Ideal S1024x256 .bf16) (wd : FVec Ideal S256x1024 .bf16) :
    k0_pay3 (F := Ideal) x g wg wu wd (ix2 r d) = term (k0_pay2 x g) wg wu wd r d := by
  unfold term hid act
  simp only [pay2_apply]
  unfold Cert.Spec.rms
  pointwise [k0_pay3, k0_pay2]

end Cert.Ffn
-- ==== Proof.FfnValue.lean ====
module

public import proofs.«01_k».proof.Proof.FfnBody

@[expose] public section

set_option maxRecDepth 16384
set_option maxHeartbeats 400000

noncomputable section

open Idealize.ShloMosaic Idealize.ShloMosaic.TcCoe Idealize.SL.Sem
open Idealize.ShloMosaic.Pipeline (Dat)

namespace Cert.Ffn

open Cert.Kernel2Ideal Cert.Kernel2Ideal.Gen

/-- A sum over the hidden features is the sum of the eleven tiles' sums, added in order. -/
theorem eleven (F : Fin 2816 → EReal) : ∑ f, F f =
    (∑ f : Fin 256, F ⟨0 + f.val, by omega⟩) + (∑ f : Fin 256, F ⟨256 + f.val, by omega⟩) + (∑ f : Fin 256, F ⟨512 + f.val, by omega⟩) + (∑ f : Fin 256, F ⟨768 + f.val, by omega⟩) + (∑ f : Fin 256, F ⟨1024 + f.val, by omega⟩) + (∑ f : Fin 256, F ⟨1280 + f.val, by omega⟩) + (∑ f : Fin 256, F ⟨1536 + f.val, by omega⟩) + (∑ f : Fin 256, F ⟨1792 + f.val, by omega⟩) + (∑ f : Fin 256, F ⟨2048 + f.val, by omega⟩) + (∑ f : Fin 256, F ⟨2304 + f.val, by omega⟩) + (∑ f : Fin 256, F ⟨2560 + f.val, by omega⟩) := by
  rw [Fin.sum_univ_two_halves (N := 2816) 2560 256 rfl]
  rw [Fin.sum_univ_two_halves (N := 2560) 2304 256 rfl]
  rw [Fin.sum_univ_two_halves (N := 2304) 2048 256 rfl]
  rw [Fin.sum_univ_two_halves (N := 2048) 1792 256 rfl]
  rw [Fin.sum_univ_two_halves (N := 1792) 1536 256 rfl]
  rw [Fin.sum_univ_two_halves (N := 1536) 1280 256 rfl]
  rw [Fin.sum_univ_two_halves (N := 1280) 1024 256 rfl]
  rw [Fin.sum_univ_two_halves (N := 1024) 768 256 rfl]
  rw [Fin.sum_univ_two_halves (N := 768) 512 256 rfl]
  rw [Fin.sum_univ_two_halves (N := 512) 256 256 rfl]
  simp only [Nat.zero_add]

/-- The kernel's gated activation is the specification's. -/
theorem act_eq (a u : EReal) : act a u = Cert.Spec.act a u := by
  have z : Ideal.ofBits .f32 0x00000000#32 = 0 := by simp [Ideal.ofBits, Ideal.ieee]
  unfold act Cert.Spec.act
  rw [z, zero_sub]

/-- The share of one tile from the whole weights. -/
theorem term_eq (x : Fin 1024 → EReal) (g : Fin 1024 → EReal) (WG WU : FVec Ideal S1024x2816 .bf16) (WD : FVec Ideal S2816x1024 .bf16)
    (h : FVec Ideal S1024x1024 .bf16) (wg wu : FVec Ideal S1024x256 .bf16) (wd : FVec Ideal S256x1024 .bf16) (r d : Fin 1024) (o : ℕ) (ho : o + 256 ≤ 2816)
    (hh : ∀ k, h (ix2 r k) = Cert.Spec.rms x g k)
    (hg : ∀ (k : Fin 1024) (f : Fin 256), wg (ix2 k f) = WG (ix2 k ⟨o + f.val, by omega⟩))
    (hu : ∀ (k : Fin 1024) (f : Fin 256), wu (ix2 k f) = WU (ix2 k ⟨o + f.val, by omega⟩))
    (hd : ∀ f : Fin 256, wd (ix2 f d) = WD (ix2 ⟨o + f.val, by omega⟩ d)) :
    term h wg wu wd r d = ∑ f : Fin 256,
      Cert.Spec.act (∑ k : Fin 1024, Cert.Spec.rms x g k * WG (ix2 k ⟨o + f.val, by omega⟩)) (∑ k : Fin 1024, Cert.Spec.rms x g k * WU (ix2 k ⟨o + f.val, by omega⟩))
        * WD (ix2 ⟨o + f.val, by omega⟩ d) := by
  unfold term hid
  simp only [hh, hg, hu, hd, act_eq]

/-- Tile 0 of the columns of a weight. -/
theorem ldc0 (K : Vec Ideal S1024x2816 .bf16) (k : Fin 1024) (f : Fin 256) : (View.ld K r0_2 : Vec Ideal S1024x256 .bf16) (ix2 k f) = K (ix2 k ⟨0 + f.val, by omega⟩) := by
  pointwise

/-- Tile 0 of the rows of a weight. -/
theorem ldr0 (K : Vec Ideal S2816x1024 .bf16) (d : Fin 1024) (f : Fin 256) : (View.ld K r0_3 : Vec Ideal S256x1024 .bf16) (ix2 f d) = K (ix2 ⟨0 + f.val, by omega⟩ d) := by
  pointwise

/-- Tile 1 of the columns of a weight. -/
theorem ldc1 (K : Vec Ideal S1024x2816 .bf16) (k : Fin 1024) (f : Fin 256) : (View.ld K r0_4 : Vec Ideal S1024x256 .bf16) (ix2 k f) = K (ix2 k ⟨256 + f.val, by omega⟩) := by
  pointwise

/-- Tile 1 of the rows of a weight. -/
theorem ldr1 (K : Vec Ideal S2816x1024 .bf16) (d : Fin 1024) (f : Fin 256) : (View.ld K r0_5 : Vec Ideal S256x1024 .bf16) (ix2 f d) = K (ix2 ⟨256 + f.val, by omega⟩ d) := by
  pointwise

/-- Tile 2 of the columns of a weight. -/
theorem ldc2 (K : Vec Ideal S1024x2816 .bf16) (k : Fin 1024) (f : Fin 256) : (View.ld K r0_6 : Vec Ideal S1024x256 .bf16) (ix2 k f) = K (ix2 k ⟨512 + f.val, by omega⟩) := by
  pointwise

/-- Tile 2 of the rows of a weight. -/
theorem ldr2 (K : Vec Ideal S2816x1024 .bf16) (d : Fin 1024) (f : Fin 256) : (View.ld K r0_7 : Vec Ideal S256x1024 .bf16) (ix2 f d) = K (ix2 ⟨512 + f.val, by omega⟩ d) := by
  pointwise

/-- Tile 3 of the columns of a weight. -/
theorem ldc3 (K : Vec Ideal S1024x2816 .bf16) (k : Fin 1024) (f : Fin 256) : (View.ld K r0_8 : Vec Ideal S1024x256 .bf16) (ix2 k f) = K (ix2 k ⟨768 + f.val, by omega⟩) := by
  pointwise

/-- Tile 3 of the rows of a weight. -/
theorem ldr3 (K : Vec Ideal S2816x1024 .bf16) (d : Fin 1024) (f : Fin 256) : (View.ld K r0_9 : Vec Ideal S256x1024 .bf16) (ix2 f d) = K (ix2 ⟨768 + f.val, by omega⟩ d) := by
  pointwise

/-- Tile 4 of the columns of a weight. -/
theorem ldc4 (K : Vec Ideal S1024x2816 .bf16) (k : Fin 1024) (f : Fin 256) : (View.ld K r0_10 : Vec Ideal S1024x256 .bf16) (ix2 k f) = K (ix2 k ⟨1024 + f.val, by omega⟩) := by
  pointwise

/-- Tile 4 of the rows of a weight. -/
theorem ldr4 (K : Vec Ideal S2816x1024 .bf16) (d : Fin 1024) (f : Fin 256) : (View.ld K r0_11 : Vec Ideal S256x1024 .bf16) (ix2 f d) = K (ix2 ⟨1024 + f.val, by omega⟩ d) := by
  pointwise

/-- Tile 5 of the columns of a weight. -/
theorem ldc5 (K : Vec Ideal S1024x2816 .bf16) (k : Fin 1024) (f : Fin 256) : (View.ld K r0_12 : Vec Ideal S1024x256 .bf16) (ix2 k f) = K (ix2 k ⟨1280 + f.val, by omega⟩) := by
  pointwise

/-- Tile 5 of the rows of a weight. -/
theorem ldr5 (K : Vec Ideal S2816x1024 .bf16) (d : Fin 1024) (f : Fin 256) : (View.ld K r0_13 : Vec Ideal S256x1024 .bf16) (ix2 f d) = K (ix2 ⟨1280 + f.val, by omega⟩ d) := by
  pointwise

/-- Tile 6 of the columns of a weight. -/
theorem ldc6 (K : Vec Ideal S1024x2816 .bf16) (k : Fin 1024) (f : Fin 256) : (View.ld K r0_14 : Vec Ideal S1024x256 .bf16) (ix2 k f) = K (ix2 k ⟨1536 + f.val, by omega⟩) := by
  pointwise

/-- Tile 6 of the rows of a weight. -/
theorem ldr6 (K : Vec Ideal S2816x1024 .bf16) (d : Fin 1024) (f : Fin 256) : (View.ld K r0_15 : Vec Ideal S256x1024 .bf16) (ix2 f d) = K (ix2 ⟨1536 + f.val, by omega⟩ d) := by
  pointwise

/-- Tile 7 of the columns of a weight. -/
theorem ldc7 (K : Vec Ideal S1024x2816 .bf16) (k : Fin 1024) (f : Fin 256) : (View.ld K r0_16 : Vec Ideal S1024x256 .bf16) (ix2 k f) = K (ix2 k ⟨1792 + f.val, by omega⟩) := by
  pointwise

/-- Tile 7 of the rows of a weight. -/
theorem ldr7 (K : Vec Ideal S2816x1024 .bf16) (d : Fin 1024) (f : Fin 256) : (View.ld K r0_17 : Vec Ideal S256x1024 .bf16) (ix2 f d) = K (ix2 ⟨1792 + f.val, by omega⟩ d) := by
  pointwise

/-- Tile 8 of the columns of a weight. -/
theorem ldc8 (K : Vec Ideal S1024x2816 .bf16) (k : Fin 1024) (f : Fin 256) : (View.ld K r0_18 : Vec Ideal S1024x256 .bf16) (ix2 k f) = K (ix2 k ⟨2048 + f.val, by omega⟩) := by
  pointwise

/-- Tile 8 of the rows of a weight. -/
theorem ldr8 (K : Vec Ideal S2816x1024 .bf16) (d : Fin 1024) (f : Fin 256) : (View.ld K r0_19 : Vec Ideal S256x1024 .bf16) (ix2 f d) = K (ix2 ⟨2048 + f.val, by omega⟩ d) := by
  pointwise

/-- Tile 9 of the columns of a weight. -/
theorem ldc9 (K : Vec Ideal S1024x2816 .bf16) (k : Fin 1024) (f : Fin 256) : (View.ld K r0_20 : Vec Ideal S1024x256 .bf16) (ix2 k f) = K (ix2 k ⟨2304 + f.val, by omega⟩) := by
  pointwise

/-- Tile 9 of the rows of a weight. -/
theorem ldr9 (K : Vec Ideal S2816x1024 .bf16) (d : Fin 1024) (f : Fin 256) : (View.ld K r0_21 : Vec Ideal S256x1024 .bf16) (ix2 f d) = K (ix2 ⟨2304 + f.val, by omega⟩ d) := by
  pointwise

/-- Tile 10 of the columns of a weight. -/
theorem ldc10 (K : Vec Ideal S1024x2816 .bf16) (k : Fin 1024) (f : Fin 256) : (View.ld K r0_22 : Vec Ideal S1024x256 .bf16) (ix2 k f) = K (ix2 k ⟨2560 + f.val, by omega⟩) := by
  pointwise

/-- Tile 10 of the rows of a weight. -/
theorem ldr10 (K : Vec Ideal S2816x1024 .bf16) (d : Fin 1024) (f : Fin 256) : (View.ld K r0_23 : Vec Ideal S256x1024 .bf16) (ix2 f d) = K (ix2 ⟨2560 + f.val, by omega⟩ d) := by
  pointwise

/-- The normed rows, from the whole blocks. -/
theorem pay20_eq (x : Vec Ideal S1024x1024 .f32) (g : Vec Ideal S1x1024 .f32) (WG WU : Vec Ideal S1024x2816 .bf16) (WD : Vec Ideal S2816x1024 .bf16) :
    k0_pay20 (F := Ideal) x g WG WU WD = k0_pay2 x g := by
  unfold k0_pay20
  frame_out

/-- Row `r` of the block the kernel stores is the feed-forward layer's row. -/
theorem body (x : Vec Ideal S1024x1024 .f32) (g : Vec Ideal S1x1024 .f32) (WG WU : Vec Ideal S1024x2816 .bf16) (WD : Vec Ideal S2816x1024 .bf16) (r d : Fin 1024) :
    k0_pay1 (F := Ideal) (k0_pay16 (k0_pay2 x g) (k0_pay11 (k0_pay2 x g) (k0_pay9 (k0_pay2 x g) (k0_pay6 (k0_pay2 x g) (k0_pay5 (k0_pay2 x g) (k0_pay3 x g (View.ld WG r0_2) (View.ld WU r0_2) (View.ld WD r0_3)) (k0_pay4 (View.ld WG r0_4)) (constant S1024x256 .f32 0x00000000#32) (View.ld WU r0_4) (View.ld WD r0_5) (View.ld WG r0_6) (View.ld WU r0_6) (View.ld WD r0_7)) (View.ld WG r0_8) (View.ld WU r0_8) (View.ld WD r0_9)) (k0_pay7 (k0_pay2 x g) (View.ld WG r0_10) (View.ld WU r0_10)) (k0_pay8 (View.ld WD r0_11)) (View.ld WG r0_12) (View.ld WU r0_12) (View.ld WD r0_13)) (k0_pay10 (k0_pay2 x g) (View.ld WG r0_14) (View.ld WU r0_14)) (View.ld WD r0_15) (View.ld WG r0_16) (View.ld WU r0_16) (View.ld WD r0_17)) (k0_pay12 (k0_pay2 x g) (View.ld WG r0_18)) (k0_pay13 (k0_pay2 x g) (View.ld WU r0_18)) (k0_pay14 (k0_pay2 x g) (View.ld WG r0_18)) (k0_pay15) (View.ld WD r0_19) (View.ld WG r0_20) (View.ld WU r0_20) (View.ld WD r0_21)) (k0_pay17 (k0_pay2 x g) (View.ld WG r0_22)) (k0_pay18 (k0_pay2 x g) (View.ld WU r0_22)) (k0_pay19 (k0_pay2 x g) (View.ld WG r0_22)) (Scalar.ofBits .f32 0x3F800000#32) (View.ld WD r0_23) x (ix2 r d)
      = Cert.Spec.ffnRow (fun j => x (ix2 r j)) (fun j => g (ix2 0 j)) WG WU WD d := by
  have hh : ∀ k, k0_pay2 (F := Ideal) x g (ix2 r k) = Cert.Spec.rms (fun j => x (ix2 r j)) (fun j => g (ix2 0 j)) k := pay2_apply r x g
  unfold Cert.Spec.ffnRow
  rw [eleven, pay1_apply, pay16_apply, pay11_apply, pay9_apply, pay6_apply, pay5_apply, pay3_apply, pay4_apply, pay8_apply]
  have p7 : ∀ f, k0_pay7 (F := Ideal) (k0_pay2 x g) (View.ld WG r0_10) (View.ld WU r0_10) (ix2 r f) = hid (k0_pay2 x g) (View.ld WG r0_10) (View.ld WU r0_10) r f := fun f => pay7_apply _ _ _ _ _
  have p10 : ∀ f, k0_pay10 (F := Ideal) (k0_pay2 x g) (View.ld WG r0_14) (View.ld WU r0_14) (ix2 r f) = hid (k0_pay2 x g) (View.ld WG r0_14) (View.ld WU r0_14) r f := fun f => pay10_apply _ _ _ _ _
  simp only [p7, p10]
  have q4 : (∑ f : Fin 256, hid (k0_pay2 x g) (View.ld WG r0_10) (View.ld WU r0_10) r f * (View.ld WD r0_11 : Vec Ideal S256x1024 .bf16) (ix2 f d)) = term (k0_pay2 x g) (View.ld WG r0_10) (View.ld WU r0_10) (View.ld WD r0_11) r d := rfl
  have q6 : (∑ f : Fin 256, hid (k0_pay2 x g) (View.ld WG r0_14) (View.ld WU r0_14) r f * (View.ld WD r0_15 : Vec Ideal S256x1024 .bf16) (ix2 f d)) = term (k0_pay2 x g) (View.ld WG r0_14) (View.ld WU r0_14) (View.ld WD r0_15) r d := rfl
  rw [q4, q6]
  rw [term_eq (fun j => x (ix2 r j)) (fun j => g (ix2 0 j)) WG WU WD (k0_pay2 x g) (View.ld WG r0_2) (View.ld WU r0_2) (View.ld WD r0_3) r d 0 (by omega) hh (ldc0 WG) (ldc0 WU) (ldr0 WD d)]
  rw [term_eq (fun j => x (ix2 r j)) (fun j => g (ix2 0 j)) WG WU WD (k0_pay2 x g) (View.ld WG r0_4) (View.ld WU r0_4) (View.ld WD r0_5) r d 256 (by omega) hh (ldc1 WG) (ldc1 WU) (ldr1 WD d)]
  rw [term_eq (fun j => x (ix2 r j)) (fun j => g (ix2 0 j)) WG WU WD (k0_pay2 x g) (View.ld WG r0_6) (View.ld WU r0_6) (View.ld WD r0_7) r d 512 (by omega) hh (ldc2 WG) (ldc2 WU) (ldr2 WD d)]
  rw [term_eq (fun j => x (ix2 r j)) (fun j => g (ix2 0 j)) WG WU WD (k0_pay2 x g) (View.ld WG r0_8) (View.ld WU r0_8) (View.ld WD r0_9) r d 768 (by omega) hh (ldc3 WG) (ldc3 WU) (ldr3 WD d)]
  rw [term_eq (fun j => x (ix2 r j)) (fun j => g (ix2 0 j)) WG WU WD (k0_pay2 x g) (View.ld WG r0_10) (View.ld WU r0_10) (View.ld WD r0_11) r d 1024 (by omega) hh (ldc4 WG) (ldc4 WU) (ldr4 WD d)]
  rw [term_eq (fun j => x (ix2 r j)) (fun j => g (ix2 0 j)) WG WU WD (k0_pay2 x g) (View.ld WG r0_12) (View.ld WU r0_12) (View.ld WD r0_13) r d 1280 (by omega) hh (ldc5 WG) (ldc5 WU) (ldr5 WD d)]
  rw [term_eq (fun j => x (ix2 r j)) (fun j => g (ix2 0 j)) WG WU WD (k0_pay2 x g) (View.ld WG r0_14) (View.ld WU r0_14) (View.ld WD r0_15) r d 1536 (by omega) hh (ldc6 WG) (ldc6 WU) (ldr6 WD d)]
  rw [term_eq (fun j => x (ix2 r j)) (fun j => g (ix2 0 j)) WG WU WD (k0_pay2 x g) (View.ld WG r0_16) (View.ld WU r0_16) (View.ld WD r0_17) r d 1792 (by omega) hh (ldc7 WG) (ldc7 WU) (ldr7 WD d)]
  rw [term_eq (fun j => x (ix2 r j)) (fun j => g (ix2 0 j)) WG WU WD (k0_pay2 x g) (View.ld WG r0_18) (View.ld WU r0_18) (View.ld WD r0_19) r d 2048 (by omega) hh (ldc8 WG) (ldc8 WU) (ldr8 WD d)]
  rw [term_eq (fun j => x (ix2 r j)) (fun j => g (ix2 0 j)) WG WU WD (k0_pay2 x g) (View.ld WG r0_20) (View.ld WU r0_20) (View.ld WD r0_21) r d 2304 (by omega) hh (ldc9 WG) (ldc9 WU) (ldr9 WD d)]
  rw [term_eq (fun j => x (ix2 r j)) (fun j => g (ix2 0 j)) WG WU WD (k0_pay2 x g) (View.ld WG r0_22) (View.ld WU r0_22) (View.ld WD r0_23) r d 2560 (by omega) hh (ldc10 WG) (ldc10 WU) (ldr10 WD d)]

/-- Every window's block index at every grid point. -/
theorem idx_val : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0] :=
  (by decide +kernel : ∀ t : Fin grid0.N, _)

variable (m : (ℓ : Loc nD τ sig) → Buf (Elt Ideal) ℓ)

/-- What grid point `t` stores at `(r, d)` is the feed-forward layer's entry at which it sits. -/
theorem point (c : Dev nD) (t : Fin cfg0.N) (r d : Fin 1024) :
    Cert.Spec.ffnRow (fun j => iblk m c 0 t (ix2 r j)) (fun j => iblk m c 1 t (ix2 0 j)) (iblk m c 2 t) (iblk m c 3 t) (iblk m c 4 t) d
      = Cert.Spec.ffn (m ((c : Thread nD τ).loc main_arg0)) (m ((c : Thread nD τ).loc main_arg1))
          (m ((c : Thread nD τ).loc main_arg2)) (m ((c : Thread nD τ).loc main_arg3)) (m ((c : Thread nD τ).loc main_arg4))
          (((cfg0.win 5).blk t).view.emb (ix2 r d)) := by
  have e1 : (((cfg0.win 5).blk t).view.emb (ix2 r d)) 1 = d := by apply Fin.ext; blk_simp [idx_val t]
  unfold Cert.Spec.ffn
  rw [e1]
  congr 1
  · funext j; blk_ext [iblk, V, idx_val t]
  · funext j; blk_point [iblk, V, idx_val t]
  · funext j
    idx_vars j
    blk_point [iblk, V, idx_val t]
  · funext j
    idx_vars j
    blk_point [iblk, V, idx_val t]
  · funext j
    idx_vars j
    blk_point [iblk, V, idx_val t]

/-- The result array after the run. -/
theorem final (c : Dev nD) : (dats m 0 c).arrAt 5 (cfgs 0).N = Cert.Spec.ffn (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]; frame_out
  idx_vars y
  simp only [pay20_eq]
  exact (body _ _ _ _ _ y0 y1).trans (point m c t y0 y1)

end Cert.Ffn
-- ==== Proof.MemKvRef.lean ====
module

public import proofs.«01_k».proof.Proof.Gen.Reference3Ideal.Run
public import proofs.«01_k».proof.Proof.Spec
public import Idealize.ShloMosaic.Lib.Tactic.CleanTypes

@[expose] public section

set_option maxRecDepth 16384
set_option maxHeartbeats 400000

noncomputable section

open Idealize.ShloMosaic Idealize.ShloMosaic.TcCoe Idealize.SL.Sem

namespace Cert.MemKv

open Cert.Reference3Ideal in
/-- The reference's result is the array of the keys and values of all four layers. -/
theorem ref (m : (ℓ : Loc nD τ sig) → Buf (Elt Ideal) ℓ) (c : Dev nD) :
    Cert.Reference3Ideal.Value.res_main_v95 m c
      = Cert.Spec.memKv (m ((c : Thread nD τ).loc main_arg0)) (m ((c : Thread nD τ).loc main_arg1))
          (m ((c : Thread nD τ).loc main_arg2)) (m ((c : Thread nD τ).loc main_arg3)) := by
  funext i
  change S4x512x2048.Idx at i
  idx_vars i
  unfold Cert.Reference3Ideal.Value.res_main_v95 Cert.Spec.memKv Cert.Spec.memKvAt Cert.Spec.rms
  clean_types
  pointwise [Cert.Reference3Ideal.Value.fn_main_v94, Cert.Reference3Ideal.Value.fn_main_v93]
  by_cases hd : i2.val < 1024
  all_goals simp only [hd, ↓reduceDIte]
  all_goals fin_vals i0 with hl
  all_goals simp only [hl, Nat.reduceSub, Nat.reduceLT, ↓reduceDIte]
  · have e : i0 = 0 := by apply Fin.ext; rw [hl]; rfl
    subst e
    rfl
  · have e : i0 = 1 := by apply Fin.ext; rw [hl]; rfl
    subst e
    rfl
  · have e : i0 = 2 := by apply Fin.ext; rw [hl]; rfl
    subst e
    rfl
  · have e : i0 = 3 := by apply Fin.ext; rw [hl]; rfl
    subst e
    rfl
  · have e : i0 = 0 := by apply Fin.ext; rw [hl]; rfl
    subst e
    rfl
  · have e : i0 = 1 := by apply Fin.ext; rw [hl]; rfl
    subst e
    rfl
  · have e : i0 = 2 := by apply Fin.ext; rw [hl]; rfl
    subst e
    rfl
  · have e : i0 = 3 := by apply Fin.ext; rw [hl]; rfl
    subst e
    rfl

end Cert.MemKv
-- ==== Proof.MemKvValue.lean ====
module

public import proofs.«01_k».proof.Proof.Gen.Kernel3Ideal.Value
public import proofs.«01_k».proof.Proof.Spec

@[expose] public section

set_option maxRecDepth 16384
set_option maxHeartbeats 400000

noncomputable section

open Idealize.ShloMosaic Idealize.ShloMosaic.TcCoe Idealize.SL.Sem
open Idealize.ShloMosaic.Pipeline (Dat)

namespace Cert.MemKv

open Cert.Kernel3Ideal Cert.Kernel3Ideal.Gen

variable (m : (ℓ : Loc nD τ sig) → Buf (Elt Ideal) ℓ)

/-- Every window's block index at every grid point. -/
theorem idx_val : ∀ t : Fin cfg0.N, win0_0.index t = ![0, 0]
    ∧ win0_1.index t = ![t.val, 0, 0]
    ∧ win0_2.index t = ![t.val, 0, 0]
    ∧ win0_3.index t = ![t.val, 0, 0] :=
  (by decide +kernel : ∀ t : Fin grid0.N, _)

/-- What grid point `t` stores at `y` is the entry of the keys and values at which `y` sits. -/
theorem point (c : Dev nD) (t : Fin cfg0.N) (y) :
    k0_pay1 (iblk m c 0 t) (iblk m c 1 t) (iblk m c 2 t) y
      = Cert.Spec.memKv (m ((c : Thread nD τ).loc main_arg0)) (m ((c : Thread nD τ).loc main_arg1)) (m ((c : Thread nD τ).loc
        main_arg2)) (m ((c : Thread nD τ).loc main_arg3)) (((cfg0.win 3).blk t).view.emb y) := by
  have e2 : ((((cfg0.win 3).blk t).view.emb y) 2).val = (y 2).val := by blk_simp [idx_val t]
  unfold Cert.Spec.memKv Cert.Spec.memKvAt
  by_cases hd : (y 2).val < 1024
  · have hd' : ((((cfg0.win 3).blk t).view.emb y) 2).val < 1024 := by omega
    simp only [hd', ↓reduceDIte]
    pointwise [k0_pay1, Cert.Spec.rms]
    blk_point [iblk, V, idx_val t]
    entry_read
    pointwise
    blk_simp [idx_val t]
    rw [dif_pos hd]
    blk_ext [iblk, V, idx_val t]
  · have hd' : ¬ ((((cfg0.win 3).blk t).view.emb y) 2).val < 1024 := by omega
    simp only [hd', ↓reduceDIte]
    pointwise [k0_pay1, Cert.Spec.rms]
    blk_point [iblk, V, idx_val t]
    entry_read
    pointwise
    blk_simp [idx_val t]
    rw [dif_neg hd]
    blk_ext [iblk, V, idx_val t]

/-- The result array after the run. -/
theorem final (c : Dev nD) : (dats m 0 c).arrAt 3 (cfgs 0).N = Cert.Spec.memKv (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp; rw [after0_3]; frame_out
  exact point m c t y

end Cert.MemKv
-- ==== Proof.AbRef.lean ====
module

public import proofs.«01_k».proof.Proof.Gen.Reference4Ideal.Run
public import proofs.«01_k».proof.Proof.Spec
public import Idealize.ShloMosaic.Lib.Tactic.CleanTypes

@[expose] public section

set_option maxRecDepth 16384
set_option maxHeartbeats 400000

noncomputable section

open Idealize.ShloMosaic Idealize.ShloMosaic.TcCoe Idealize.SL.Sem

namespace Cert.Ab

open Cert.Reference4Ideal Cert.Reference4Ideal.Gen

/-- The normed rows times the weight. -/
def rP (x : FVec Ideal S17408x1024 .f32) (g : FVec Ideal S1024 .f32) (w : FVec Ideal S1024x3360 .f32) : FVec Ideal S17408x3360 .f32 :=
  Host.dotGeneral dot_S17408x1024_S1024x3360_S17408x3360_1_0_0_1_n_n none (mulf (mulf x (broadcastInDim S17408x1024 ![0, 1] bcast_S17408x1_S17408x1024_0_1 (Host.rsqrt (addf (Host.divf (broadcastInDim S17408x1 ![0] bcast_S17408_S17408x1_0 (Host.reduceAdd (mulf x x) (constant S_ .f32 0x00000000#32) reducesTo_S17408x1024_S17408_d1 h_S_)) (broadcastInDim S17408x1 ![] bcast_S_S17408x1 (constant S_ .f32 0x44800000#32))) (broadcastInDim S17408x1 ![] bcast_S_S17408x1 (constant S_ .f32 0x358637BD#32)))))) (broadcastInDim S17408x1024 ![0, 1] bcast_S1x1024_S17408x1024_0_1 (broadcastInDim S1x1024 ![1] bcast_S1024_S1x1024_1 g))) w

/-- Entry `(r, e)` of the projection. -/
theorem rP_apply (x : FVec Ideal S17408x1024 .f32) (g : FVec Ideal S1024 .f32) (w : FVec Ideal S1024x3360 .f32) (r : Fin 17408) (e : Fin 3360) : rP x g w (ix2 r e) = Cert.Spec.abAt x g w r e := by
  unfold Cert.Spec.abAt Cert.Spec.projRow Cert.Spec.rms
  pointwise [rP]

/-- The reference's first array: the delta rule's operands. -/
theorem ref_qkv (x : FVec Ideal S17408x1024 .f32) (g : FVec Ideal S1024 .f32) (w : FVec Ideal S1024x3360 .f32) :
    extractStridedSlice S17408x1536 ![0, 0] (rP x g w) slices_S17408x3360_S17408x1536_0_0 = Cert.Spec.abQkv x g w := by
  funext i
  idx_vars i
  unfold Cert.Spec.abQkv
  pointwise [rP_apply]

/-- The reference's third array: the output gate. -/
theorem ref_gate (x : FVec Ideal S17408x1024 .f32) (g : FVec Ideal S1024 .f32) (w : FVec Ideal S1024x3360 .f32) :
    extractStridedSlice S17408x512 ![0, 1544] (rP x g w) slices_S17408x3360_S17408x512_0_1544 = Cert.Spec.abGate x g w := by
  funext i
  idx_vars i
  unfold Cert.Spec.abGate
  pointwise [rP_apply]

/-- The reference's fourth array: the sparse attention's queries. -/
theorem ref_nq (x : FVec Ideal S17408x1024 .f32) (g : FVec Ideal S1024 .f32) (w : FVec Ideal S1024x3360 .f32) :
    extractStridedSlice S17408x512 ![0, 2056] (rP x g w) slices_S17408x3360_S17408x512_0_2056 = Cert.Spec.abNq x g w := by
  funext i
  idx_vars i
  unfold Cert.Spec.abNq
  pointwise [rP_apply]

/-- The projection's key and value columns, the two window blocks last. -/
def rN (z : FVec Ideal S17408x3360 .f32) : FVec Ideal S17408x768 .f32 :=
  (concatenate S17408x768 1 [⟨S17408x128, ((extractStridedSlice S17408x128 ![0, 256] (extractStridedSlice S17408x768 ![0, 2568] z slices_S17408x3360_S17408x768_0_2568) slices_S17408x768_S17408x128_0_256) : (⟨S17408x128, .f32⟩ : BufTy).Contents (Elt Ideal))⟩, ⟨S17408x128, ((extractStridedSlice S17408x128 ![0, 384] (extractStridedSlice S17408x768 ![0, 2568] z slices_S17408x3360_S17408x768_0_2568) slices_S17408x768_S17408x128_0_384) : (⟨S17408x128, .f32⟩ : BufTy).Contents (Elt Ideal))⟩, ⟨S17408x128, ((extractStridedSlice S17408x128 ![0, 512] (extractStridedSlice S17408x768 ![0, 2568] z slices_S17408x3360_S17408x768_0_2568) slices_S17408x768_S17408x128_0_512) : (⟨S17408x128, .f32⟩ : BufTy).Contents (Elt Ideal))⟩, ⟨S17408x128, ((extractStridedSlice S17408x128 ![0, 640] (extractStridedSlice S17408x768 ![0, 2568] z slices_S17408x3360_S17408x768_0_2568) slices_S17408x768_S17408x128_0_640) : (⟨S17408x128, .f32⟩ : BufTy).Contents (Elt Ideal))⟩, ⟨S17408x128, ((extractStridedSlice S17408x128 ![0, 0] (extractStridedSlice S17408x768 ![0, 2568] z slices_S17408x3360_S17408x768_0_2568) slices_S17408x768_S17408x128_0_0) : (⟨S17408x128, .f32⟩ : BufTy).Contents (Elt Ideal))⟩, ⟨S17408x128, ((extractStridedSlice S17408x128 ![0, 128] (extractStridedSlice S17408x768 ![0, 2568] z slices_S17408x3360_S17408x768_0_2568) slices_S17408x768_S17408x128_0_128) : (⟨S17408x128, .f32⟩ : BufTy).Contents (Elt Ideal))⟩] concatenates_S17408x128_S17408x128_S17408x128_S17408x128_S17408x128_S17408x128_S17408x768_d1 : (⟨S17408x768, .f32⟩ : BufTy).Contents (Elt Ideal))

/-- The projection's small gates, padded with zeros. -/
def rS (z : FVec Ideal S17408x3360 .f32) : FVec Ideal S17408x128 .f32 :=
  (concatenate S17408x128 1 [⟨S17408x4, ((extractStridedSlice S17408x4 ![0, 1536] z slices_S17408x3360_S17408x4_0_1536) : (⟨S17408x4, .f32⟩ : BufTy).Contents (Elt Ideal))⟩, ⟨S17408x4, ((extractStridedSlice S17408x4 ![0, 1540] z slices_S17408x3360_S17408x4_0_1540) : (⟨S17408x4, .f32⟩ : BufTy).Contents (Elt Ideal))⟩, ⟨S17408x24, ((extractStridedSlice S17408x24 ![0, 3336] z slices_S17408x3360_S17408x24_0_3336) : (⟨S17408x24, .f32⟩ : BufTy).Contents (Elt Ideal))⟩, ⟨S17408x96, ((broadcastInDim S17408x96 ![] bcast_S_S17408x96 (constant S_ .f32 0x00000000#32 : FVec Ideal S_ .f32)) : (⟨S17408x96, .f32⟩ : BufTy).Contents (Elt Ideal))⟩] concatenates_S17408x4_S17408x4_S17408x24_S17408x96_S17408x128_d1 : (⟨S17408x128, .f32⟩ : BufTy).Contents (Elt Ideal))

/-- Entry `(r, e)` of the key and value columns. -/
theorem rN_apply (z : FVec Ideal S17408x3360 .f32) (r : Fin 17408) (e : Fin 768) :
    rN z (ix2 r e) = if h : e.val < 512 then z (ix2 r ⟨2824 + e.val, by omega⟩) else z (ix2 r ⟨2568 + (e.val - 512), by omega⟩) := by
  pointwise [rN]
  (repeat' split) <;> first | (exfalso; omega) | exact congrArg (fun e => z (ix2 r e)) (Fin.ext (by first | omega | (simp only [] <;> omega)))

/-- Entry `(r, e)` of the small gates. -/
theorem rS_apply (z : FVec Ideal S17408x3360 .f32) (r : Fin 17408) (e : Fin 128) :
    rS z (ix2 r e) = if h : e.val < 8 then z (ix2 r ⟨1536 + e.val, by omega⟩)
      else if h' : e.val < 32 then z (ix2 r ⟨3336 + (e.val - 8), by omega⟩) else 0 := by
  have z0 : Ideal.ofBits .f32 0x00000000#32 = 0 := by simp [Ideal.ofBits, Ideal.ieee]
  pointwise [rS]
  (repeat' split) <;> first | (exfalso; omega) | exact congrArg (fun e => z (ix2 r e)) (Fin.ext (by first | omega | (simp only [] <;> omega))) | exact z0 | rfl

/-- The reference's second array: the sparse attention's keys and values. -/
theorem ref_nkv (x : FVec Ideal S17408x1024 .f32) (g : FVec Ideal S1024 .f32) (w : FVec Ideal S1024x3360 .f32) : rN (rP x g w) = Cert.Spec.abNkv x g w := by
  funext i
  change S17408x768.Idx at i
  idx_vars i
  refine (rN_apply _ i0 i1).trans ?_
  simp only [rP_apply]
  rfl

/-- The reference's fifth array: the small gates. -/
theorem ref_small (x : FVec Ideal S17408x1024 .f32) (g : FVec Ideal S1024 .f32) (w : FVec Ideal S1024x3360 .f32) : rS (rP x g w) = Cert.Spec.abSmall x g w := by
  funext i
  change S17408x128.Idx at i
  idx_vars i
  refine (rS_apply _ i0 i1).trans ?_
  simp only [rP_apply]
  rfl

end Cert.Ab
-- ==== Proof.AbWeight.lean ====
module

public import proofs.«01_k».proof.Proof.Gen.Kernel4Ideal.Value
public import proofs.«01_k».proof.Proof.Spec

@[expose] public section

set_option maxRecDepth 16384
set_option maxHeartbeats 400000

noncomputable section

open Idealize.ShloMosaic Idealize.ShloMosaic.TcCoe Idealize.SL.Sem
open Idealize.ShloMosaic.Pipeline (Dat)

namespace Cert.Ab

open Cert.Kernel4Ideal Cert.Kernel4Ideal.Gen

/-- Every window's block index at every grid point. -/
theorem idx_val : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

variable (m : (ℓ : Loc nD τ sig) → Buf (Elt Ideal) ℓ)

/-- The small gates' columns of the weight, as the kernel's host code lays them out. -/
def smallW (w : FVec Ideal S1024x3360 .f32) : FVec Ideal S1024x128 .f32 :=
  concatenate S1024x128 1 [⟨S1024x4, (extractStridedSlice S1024x4 ![0, 1536] w slices_S1024x3360_S1024x4_0_1536 : (⟨S1024x4, .f32⟩ : BufTy).Contents (Elt Ideal))⟩, ⟨S1024x4, (extractStridedSlice S1024x4 ![0, 1540] w slices_S1024x3360_S1024x4_0_1540 : (⟨S1024x4, .f32⟩ : BufTy).Contents (Elt Ideal))⟩, ⟨S1024x24, (extractStridedSlice S1024x24 ![0, 3336] w slices_S1024x3360_S1024x24_0_3336 : (⟨S1024x24, .f32⟩ : BufTy).Contents (Elt Ideal))⟩, ⟨S1024x96, (broadcastInDim S1024x96 ![] bcast_S_S1024x96 (constant S_ .f32 0x00000000#32 : FVec Ideal S_ .f32) : FVec Ideal S1024x96 .f32)⟩] concatenates_S1024x4_S1024x4_S1024x24_S1024x96_S1024x128_d1

/-- The weight's columns as the kernel's host code lays them out. -/
def catW (w : FVec Ideal S1024x3360 .f32) : FVec Ideal S1024x3456 .bf16 :=
  truncf .bf16 (concatenate S1024x3456 1 [⟨S1024x1536, (extractStridedSlice S1024x1536 ![0, 0] w slices_S1024x3360_S1024x1536_0_0 : (⟨S1024x1536, .f32⟩ : BufTy).Contents (Elt Ideal))⟩, ⟨S1024x128, (extractStridedSlice S1024x128 ![0, 256] (extractStridedSlice S1024x768 ![0, 2568] w slices_S1024x3360_S1024x768_0_2568) slices_S1024x768_S1024x128_0_256 : (⟨S1024x128, .f32⟩ : BufTy).Contents (Elt Ideal))⟩, ⟨S1024x128, (extractStridedSlice S1024x128 ![0, 384] (extractStridedSlice S1024x768 ![0, 2568] w slices_S1024x3360_S1024x768_0_2568) slices_S1024x768_S1024x128_0_384 : (⟨S1024x128, .f32⟩ : BufTy).Contents (Elt Ideal))⟩, ⟨S1024x128, (extractStridedSlice S1024x128 ![0, 512] (extractStridedSlice S1024x768 ![0, 2568] w slices_S1024x3360_S1024x768_0_2568) slices_S1024x768_S1024x128_0_512 : (⟨S1024x128, .f32⟩ : BufTy).Contents (Elt Ideal))⟩, ⟨S1024x128, (extractStridedSlice S1024x128 ![0, 640] (extractStridedSlice S1024x768 ![0, 2568] w slices_S1024x3360_S1024x768_0_2568) slices_S1024x768_S1024x128_0_640 : (⟨S1024x128, .f32⟩ : BufTy).Contents (Elt Ideal))⟩, ⟨S1024x128, (extractStridedSlice S1024x128 ![0, 0] (extractStridedSlice S1024x768 ![0, 2568] w slices_S1024x3360_S1024x768_0_2568) slices_S1024x768_S1024x128_0_0 : (⟨S1024x128, .f32⟩ : BufTy).Contents (Elt Ideal))⟩, ⟨S1024x128, (extractStridedSlice S1024x128 ![0, 128] (extractStridedSlice S1024x768 ![0, 2568] w slices_S1024x3360_S1024x768_0_2568) slices_S1024x768_S1024x128_0_128 : (⟨S1024x128, .f32⟩ : BufTy).Contents (Elt Ideal))⟩, ⟨S1024x512, (extractStridedSlice S1024x512 ![0, 1544] w slices_S1024x3360_S1024x512_0_1544 : (⟨S1024x512, .f32⟩ : BufTy).Contents (Elt Ideal))⟩, ⟨S1024x512, (extractStridedSlice S1024x512 ![0, 2056] w slices_S1024x3360_S1024x512_0_2056 : (⟨S1024x512, .f32⟩ : BufTy).Contents (Elt Ideal))⟩, ⟨S1024x128, (smallW w : (⟨S1024x128, .f32⟩ : BufTy).Contents (Elt Ideal))⟩] concatenates_S1024x1536_S1024x128_S1024x128_S1024x128_S1024x128_S1024x128_S1024x128_S1024x512_S1024x512_S1024x128_S1024x3456_d1 : FVec Ideal S1024x3456 .f32) bitsLt_bf16_f32

/-- The region finds the rearranged weight in its third operand. -/
theorem V_w (c : Dev nD) : V m c main_v16 = catW (m ((c : Thread nD τ).loc main_arg2)) := by
  show StableHlo.after hostOps0 (fun b => m (c, b)) main_v16 = _
  unfold hostOps0
  after_results_simp <;> (try dsimp only [Matrix.cons_val]) <;> (try after_results_simp) <;> rfl

/-- The third operand's block is that weight. -/
theorem blk_w (c : Dev nD) (t : Fin cfg0.N) (k : Fin 1024) (e : Fin 3456) :
    iblk m c 2 t (ix2 k e) = catW (m ((c : Thread nD τ).loc main_arg2)) (ix2 k e) := by
  rw [← V_w]
  blk_ext [iblk, idx_val t]

/-- The rearranged weight's first columns: the delta rule's operands. -/
theorem catW_qkv (w : FVec Ideal S1024x3360 .f32) (k : Fin 1024) (d : Fin 1536) : catW w (ix2 k ⟨d.val, by omega⟩) = w (ix2 k ⟨d.val, by omega⟩) := by
  pointwise [catW]

/-- The columns of the selected and the windowed keys and values. -/
theorem catW_nkv (w : FVec Ideal S1024x3360 .f32) (k : Fin 1024) (d : Fin 768) (h : d.val < 512) : catW w (ix2 k ⟨1536 + d.val, by omega⟩) = w (ix2 k ⟨2824 + d.val, by omega⟩) := by
  pointwise [catW]
  split_ifs <;> first
    | (exfalso; omega)
    | exact congrArg (fun e => w (ix2 k e)) (Fin.ext (by first | omega | (simp only [] <;> omega)))

/-- The columns of the compressed keys and values. -/
theorem catW_cmp (w : FVec Ideal S1024x3360 .f32) (k : Fin 1024) (d : Fin 768) (h : ¬ d.val < 512) : catW w (ix2 k ⟨1536 + d.val, by omega⟩) = w (ix2 k ⟨2568 + (d.val - 512), by omega⟩) := by
  pointwise [catW]
  split_ifs <;> first
    | (exfalso; omega)
    | exact congrArg (fun e => w (ix2 k e)) (Fin.ext (by first | omega | (simp only [] <;> omega)))

/-- The columns of the output gate. -/
theorem catW_gate (w : FVec Ideal S1024x3360 .f32) (k : Fin 1024) (d : Fin 512) : catW w (ix2 k ⟨2304 + d.val, by omega⟩) = w (ix2 k ⟨1544 + d.val, by omega⟩) := by
  pointwise [catW]
  split_ifs <;> first
    | (exfalso; omega)
    | exact congrArg (fun e => w (ix2 k e)) (Fin.ext (by first | omega | (simp only [] <;> omega)))

/-- The columns of the queries. -/
theorem catW_nq (w : FVec Ideal S1024x3360 .f32) (k : Fin 1024) (d : Fin 512) : catW w (ix2 k ⟨2816 + d.val, by omega⟩) = w (ix2 k ⟨2056 + d.val, by omega⟩) := by
  pointwise [catW]
  split_ifs <;> first
    | (exfalso; omega)
    | exact congrArg (fun e => w (ix2 k e)) (Fin.ext (by first | omega | (simp only [] <;> omega)))

/-- The last 128 columns are the small gates'. -/
theorem catW_small (w : FVec Ideal S1024x3360 .f32) (k : Fin 1024) (d : Fin 128) : catW w (ix2 k ⟨3328 + d.val, by omega⟩) = smallW w (ix2 k d) := by
  pointwise [catW]
  split_ifs <;> first
    | (exfalso; omega)
    | exact congrArg (fun e => w (ix2 k e)) (Fin.ext (by first | omega | (simp only [] <;> omega)))
    | exact congrArg (fun e => smallW w (ix2 k e)) (Fin.ext (by first | omega | (simp only [] <;> omega)))

/-- The columns of the delta rule's two gates. -/
theorem catW_b (w : FVec Ideal S1024x3360 .f32) (k : Fin 1024) (d : Fin 128) (h : d.val < 8) : catW w (ix2 k ⟨3328 + d.val, by omega⟩) = w (ix2 k ⟨1536 + d.val, by omega⟩) := by
  rw [catW_small]
  pointwise [smallW]
  split_ifs <;> first
    | (exfalso; omega)
    | exact congrArg (fun e => w (ix2 k e)) (Fin.ext (by first | omega | (simp only [] <;> omega)))

/-- The columns of the sparse attention's branch gates. -/
theorem catW_g (w : FVec Ideal S1024x3360 .f32) (k : Fin 1024) (d : Fin 128) (h : ¬ d.val < 8) (h' : d.val < 32) : catW w (ix2 k ⟨3328 + d.val, by omega⟩) = w (ix2 k ⟨3336 + (d.val - 8), by omega⟩) := by
  rw [catW_small]
  pointwise [smallW]
  split_ifs <;> first
    | (exfalso; omega)
    | exact congrArg (fun e => w (ix2 k e)) (Fin.ext (by first | omega | (simp only [] <;> omega)))

/-- The last columns are zero. -/
theorem catW_0 (w : FVec Ideal S1024x3360 .f32) (k : Fin 1024) (d : Fin 128) (h' : ¬ d.val < 32) : catW w (ix2 k ⟨3328 + d.val, by omega⟩) = 0 := by
  rw [catW_small]
  pointwise [smallW]
  split_ifs <;> first
    | (exfalso; omega)
    | rfl

end Cert.Ab
-- ==== Proof.AbQkv.lean ====
module

public import proofs.«01_k».proof.Proof.AbWeight

@[expose] public section

set_option maxRecDepth 16384
set_option maxHeartbeats 400000

noncomputable section

open Idealize.ShloMosaic Idealize.ShloMosaic.TcCoe Idealize.SL.Sem
open Idealize.ShloMosaic.Pipeline (Dat)

namespace Cert.Ab

open Cert.Kernel4Ideal Cert.Kernel4Ideal.Gen

/-- The piece of the weight's block that the qkv columns are read from. -/
theorem ld_qkv (X : Vec Ideal S1024x3456 .bf16) (k : Fin 1024) (d : Fin 1536) :
    (View.ld X r0_2 : Vec Ideal S1024x1536 .bf16) (ix2 k d) = X (ix2 k ⟨d.val, by omega⟩) := by
  pointwise

/-- What the body stores at `(r, d)` of the qkv array: entry `d` of the block's normed row `r` times the weight's piece. -/
theorem pay_qkv (x : Vec Ideal S512x1024 .f32) (g : Vec Ideal S1x1024 .f32) (w : Vec Ideal S1024x1536 .bf16) (r : Fin 512) (d : Fin 1536) :
    k0_pay3 (F := Ideal) x g w (ix2 r d) = ∑ k : Fin 1024, Cert.Spec.rms (fun j => x (ix2 r j)) (fun j => g (ix2 0 j)) k * w (ix2 k d) := by
  unfold Cert.Spec.rms
  pointwise [k0_pay3, k0_pay2]

/-- The same with the piece read out of the weight's block. -/
theorem body_qkv (x : Vec Ideal S512x1024 .f32) (g : Vec Ideal S1x1024 .f32) (X : Vec Ideal S1024x3456 .bf16) (r : Fin 512) (d : Fin 1536) :
    k0_pay3 (F := Ideal) x g (View.ld X r0_2) (ix2 r d)
      = ∑ k : Fin 1024, Cert.Spec.rms (fun j => x (ix2 r j)) (fun j => g (ix2 0 j)) k * X (ix2 k ⟨d.val, by omega⟩) :=
  (pay_qkv x g _ r d).trans (Finset.sum_congr rfl fun k _ => congrArg _ (ld_qkv X k d))

/-- The entry of the qkv array at an index of column `d`. -/
theorem abQkv_at (x : Cert.Spec.Mat 17408 1024) (g : Cert.Spec.Row 1024) (w : Cert.Spec.Mat 1024 3360) (i : (⟨2, ![17408, 1536]⟩ : Shape).Idx) (d : Fin 1536) (h : i 1 = d) :
    Cert.Spec.abQkv x g w i = ∑ k : Fin 1024, Cert.Spec.rms (fun j => x (ix2 (i 0) j)) (fun j => g (ix1 j)) k * w (ix2 k ⟨d.val, by omega⟩) := by
  subst h; rfl

variable (m : (ℓ : Loc nD τ sig) → Buf (Elt Ideal) ℓ)

/-- What grid point `t` stores at `(r, d)` of the qkv array is the entry at which it sits. -/
theorem point_qkv (c : Dev nD) (t : Fin cfg0.N) (r : Fin 512) (d : Fin 1536) :
    (∑ k : Fin 1024, Cert.Spec.rms (fun j => iblk m c 0 t (ix2 r j)) (fun j => iblk m c 1 t (ix2 0 j)) k
        * iblk m c 2 t (ix2 k ⟨d.val, by omega⟩))
      = Cert.Spec.abQkv (m ((c : Thread nD τ).loc main_arg0)) (m ((c : Thread nD τ).loc main_arg1)) (m ((c : Thread nD τ).loc main_arg2)) (((cfg0.win 3).blk t).view.emb (ix2 r d)) := by
  have e1 : (((cfg0.win 3).blk t).view.emb (ix2 r d)) 1 = d := by apply Fin.ext; blk_simp [idx_val t]
  have hx : (fun j => iblk m c 0 t (ix2 r j)) = fun j => m ((c : Thread nD τ).loc main_arg0) (ix2 ((((cfg0.win 3).blk t).view.emb (ix2 r d)) 0) j) := by
    funext j; blk_ext [iblk, V, idx_val t]
  have hg : (fun j => iblk m c 1 t (ix2 0 j)) = fun j => m ((c : Thread nD τ).loc main_arg1) (ix1 j) := by
    funext j; blk_point [iblk, V, idx_val t]
  rw [hx, hg]
  refine Eq.trans ?_ (abQkv_at _ _ _ _ d e1).symm
  exact Finset.sum_congr rfl fun k _ => congrArg _ ((blk_w m c t k _).trans (catW_qkv _ k d))

/-- The qkv array after the run. -/
theorem final_qkv (c : Dev nD) : (dats m 0 c).arrAt 3 (cfgs 0).N = Cert.Spec.abQkv (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  idx_vars y
  exact (body_qkv _ _ _ y0 y1).trans (point_qkv m c t y0 y1)

end Cert.Ab
-- ==== Proof.AbNkv.lean ====
module

public import proofs.«01_k».proof.Proof.AbWeight

@[expose] public section

set_option maxRecDepth 16384
set_option maxHeartbeats 400000

noncomputable section

open Idealize.ShloMosaic Idealize.ShloMosaic.TcCoe Idealize.SL.Sem
open Idealize.ShloMosaic.Pipeline (Dat)

namespace Cert.Ab

open Cert.Kernel4Ideal Cert.Kernel4Ideal.Gen

/-- The piece of the weight's block that the nkv columns are read from. -/
theorem ld_nkv (X : Vec Ideal S1024x3456 .bf16) (k : Fin 1024) (d : Fin 768) :
    (View.ld X r0_4 : Vec Ideal S1024x768 .bf16) (ix2 k d) = X (ix2 k ⟨1536 + d.val, by omega⟩) := by
  pointwise

/-- What the body stores at `(r, d)` of the nkv array: entry `d` of the block's normed row `r` times the weight's piece. -/
theorem pay_nkv (x : Vec Ideal S512x1024 .f32) (g : Vec Ideal S1x1024 .f32) (w : Vec Ideal S1024x768 .bf16) (r : Fin 512) (d : Fin 768) :
    k0_pay4 (F := Ideal) x g w (ix2 r d) = ∑ k : Fin 1024, Cert.Spec.rms (fun j => x (ix2 r j)) (fun j => g (ix2 0 j)) k * w (ix2 k d) := by
  unfold Cert.Spec.rms
  pointwise [k0_pay4, k0_pay2]

/-- The same with the piece read out of the weight's block. -/
theorem body_nkv (x : Vec Ideal S512x1024 .f32) (g : Vec Ideal S1x1024 .f32) (X : Vec Ideal S1024x3456 .bf16) (r : Fin 512) (d : Fin 768) :
    k0_pay4 (F := Ideal) x g (View.ld X r0_4) (ix2 r d)
      = ∑ k : Fin 1024, Cert.Spec.rms (fun j => x (ix2 r j)) (fun j => g (ix2 0 j)) k * X (ix2 k ⟨1536 + d.val, by omega⟩) :=
  (pay_nkv x g _ r d).trans (Finset.sum_congr rfl fun k _ => congrArg _ (ld_nkv X k d))

/-- The entry of the nkv array at an index of column `d`. -/
theorem abNkv_at (x : Cert.Spec.Mat 17408 1024) (g : Cert.Spec.Row 1024) (w : Cert.Spec.Mat 1024 3360) (i : (⟨2, ![17408, 768]⟩ : Shape).Idx) (d : Fin 768) (h : i 1 = d) :
    Cert.Spec.abNkv x g w i = if h : d.val < 512 then ∑ k : Fin 1024, Cert.Spec.rms (fun j => x (ix2 (i 0) j)) (fun j => g (ix1 j)) k * w (ix2 k ⟨2824 + d.val, by omega⟩) else ∑ k : Fin 1024, Cert.Spec.rms (fun j => x (ix2 (i 0) j)) (fun j => g (ix1 j)) k * w (ix2 k ⟨2568 + (d.val - 512), by omega⟩) := by
  subst h; rfl

variable (m : (ℓ : Loc nD τ sig) → Buf (Elt Ideal) ℓ)

/-- What grid point `t` stores at `(r, d)` of the nkv array is the entry at which it sits. -/
theorem point_nkv (c : Dev nD) (t : Fin cfg0.N) (r : Fin 512) (d : Fin 768) :
    (∑ k : Fin 1024, Cert.Spec.rms (fun j => iblk m c 0 t (ix2 r j)) (fun j => iblk m c 1 t (ix2 0 j)) k
        * iblk m c 2 t (ix2 k ⟨1536 + d.val, by omega⟩))
      = Cert.Spec.abNkv (m ((c : Thread nD τ).loc main_arg0)) (m ((c : Thread nD τ).loc main_arg1)) (m ((c : Thread nD τ).loc main_arg2)) (((cfg0.win 4).blk t).view.emb (ix2 r d)) := by
  have e1 : (((cfg0.win 4).blk t).view.emb (ix2 r d)) 1 = d := by apply Fin.ext; blk_simp [idx_val t]
  have hx : (fun j => iblk m c 0 t (ix2 r j)) = fun j => m ((c : Thread nD τ).loc main_arg0) (ix2 ((((cfg0.win 4).blk t).view.emb (ix2 r d)) 0) j) := by
    funext j; blk_ext [iblk, V, idx_val t]
  have hg : (fun j => iblk m c 1 t (ix2 0 j)) = fun j => m ((c : Thread nD τ).loc main_arg1) (ix1 j) := by
    funext j; blk_point [iblk, V, idx_val t]
  rw [hx, hg]
  refine Eq.trans ?_ (abNkv_at _ _ _ _ d e1).symm
  by_cases h : d.val < 512
  · rw [dif_pos h]; exact Finset.sum_congr rfl fun k _ => congrArg _ ((blk_w m c t k _).trans (catW_nkv _ k d h))
  · rw [dif_neg h]; exact Finset.sum_congr rfl fun k _ => congrArg _ ((blk_w m c t k _).trans (catW_cmp _ k d h))

/-- The nkv array after the run. -/
theorem final_nkv (c : Dev nD) : (dats m 0 c).arrAt 4 (cfgs 0).N = Cert.Spec.abNkv (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]; frame_out
  idx_vars y
  exact (body_nkv _ _ _ y0 y1).trans (point_nkv m c t y0 y1)

end Cert.Ab
-- ==== Proof.AbGate.lean ====
module

public import proofs.«01_k».proof.Proof.AbWeight

@[expose] public section

set_option maxRecDepth 16384
set_option maxHeartbeats 400000

noncomputable section

open Idealize.ShloMosaic Idealize.ShloMosaic.TcCoe Idealize.SL.Sem
open Idealize.ShloMosaic.Pipeline (Dat)

namespace Cert.Ab

open Cert.Kernel4Ideal Cert.Kernel4Ideal.Gen

/-- The piece of the weight's block that the gate columns are read from. -/
theorem ld_gate (X : Vec Ideal S1024x3456 .bf16) (k : Fin 1024) (d : Fin 512) :
    (View.ld X r0_6 : Vec Ideal S1024x512 .bf16) (ix2 k d) = X (ix2 k ⟨2304 + d.val, by omega⟩) := by
  pointwise

/-- What the body stores at `(r, d)` of the gate array: entry `d` of the block's normed row `r` times the weight's piece. -/
theorem pay_gate (x : Vec Ideal S512x1024 .f32) (g : Vec Ideal S1x1024 .f32) (w : Vec Ideal S1024x512 .bf16) (r : Fin 512) (d : Fin 512) :
    k0_pay5 (F := Ideal) x g w (ix2 r d) = ∑ k : Fin 1024, Cert.Spec.rms (fun j => x (ix2 r j)) (fun j => g (ix2 0 j)) k * w (ix2 k d) := by
  unfold Cert.Spec.rms
  pointwise [k0_pay5, k0_pay2]

/-- The same with the piece read out of the weight's block. -/
theorem body_gate (x : Vec Ideal S512x1024 .f32) (g : Vec Ideal S1x1024 .f32) (X : Vec Ideal S1024x3456 .bf16) (r : Fin 512) (d : Fin 512) :
    k0_pay5 (F := Ideal) x g (View.ld X r0_6) (ix2 r d)
      = ∑ k : Fin 1024, Cert.Spec.rms (fun j => x (ix2 r j)) (fun j => g (ix2 0 j)) k * X (ix2 k ⟨2304 + d.val, by omega⟩) :=
  (pay_gate x g _ r d).trans (Finset.sum_congr rfl fun k _ => congrArg _ (ld_gate X k d))

/-- The entry of the gate array at an index of column `d`. -/
theorem abGate_at (x : Cert.Spec.Mat 17408 1024) (g : Cert.Spec.Row 1024) (w : Cert.Spec.Mat 1024 3360) (i : (⟨2, ![17408, 512]⟩ : Shape).Idx) (d : Fin 512) (h : i 1 = d) :
    Cert.Spec.abGate x g w i = ∑ k : Fin 1024, Cert.Spec.rms (fun j => x (ix2 (i 0) j)) (fun j => g (ix1 j)) k * w (ix2 k ⟨1544 + d.val, by omega⟩) := by
  subst h; rfl

variable (m : (ℓ : Loc nD τ sig) → Buf (Elt Ideal) ℓ)

/-- What grid point `t` stores at `(r, d)` of the gate array is the entry at which it sits. -/
theorem point_gate (c : Dev nD) (t : Fin cfg0.N) (r : Fin 512) (d : Fin 512) :
    (∑ k : Fin 1024, Cert.Spec.rms (fun j => iblk m c 0 t (ix2 r j)) (fun j => iblk m c 1 t (ix2 0 j)) k
        * iblk m c 2 t (ix2 k ⟨2304 + d.val, by omega⟩))
      = Cert.Spec.abGate (m ((c : Thread nD τ).loc main_arg0)) (m ((c : Thread nD τ).loc main_arg1)) (m ((c : Thread nD τ).loc main_arg2)) (((cfg0.win 5).blk t).view.emb (ix2 r d)) := by
  have e1 : (((cfg0.win 5).blk t).view.emb (ix2 r d)) 1 = d := by apply Fin.ext; blk_simp [idx_val t]
  have hx : (fun j => iblk m c 0 t (ix2 r j)) = fun j => m ((c : Thread nD τ).loc main_arg0) (ix2 ((((cfg0.win 5).blk t).view.emb (ix2 r d)) 0) j) := by
    funext j; blk_ext [iblk, V, idx_val t]
  have hg : (fun j => iblk m c 1 t (ix2 0 j)) = fun j => m ((c : Thread nD τ).loc main_arg1) (ix1 j) := by
    funext j; blk_point [iblk, V, idx_val t]
  rw [hx, hg]
  refine Eq.trans ?_ (abGate_at _ _ _ _ d e1).symm
  exact Finset.sum_congr rfl fun k _ => congrArg _ ((blk_w m c t k _).trans (catW_gate _ k d))

/-- The gate array after the run. -/
theorem final_gate (c : Dev nD) : (dats m 0 c).arrAt 5 (cfgs 0).N = Cert.Spec.abGate (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]; frame_out
  idx_vars y
  exact (body_gate _ _ _ y0 y1).trans (point_gate m c t y0 y1)

end Cert.Ab
-- ==== Proof.AbNq.lean ====
module

public import proofs.«01_k».proof.Proof.AbWeight

@[expose] public section

set_option maxRecDepth 16384
set_option maxHeartbeats 400000

noncomputable section

open Idealize.ShloMosaic Idealize.ShloMosaic.TcCoe Idealize.SL.Sem
open Idealize.ShloMosaic.Pipeline (Dat)

namespace Cert.Ab

open Cert.Kernel4Ideal Cert.Kernel4Ideal.Gen

/-- The piece of the weight's block that the nq columns are read from. -/
theorem ld_nq (X : Vec Ideal S1024x3456 .bf16) (k : Fin 1024) (d : Fin 512) :
    (View.ld X r0_8 : Vec Ideal S1024x512 .bf16) (ix2 k d) = X (ix2 k ⟨2816 + d.val, by omega⟩) := by
  pointwise

/-- What the body stores at `(r, d)` of the nq array: entry `d` of the block's normed row `r` times the weight's piece. -/
theorem pay_nq (x : Vec Ideal S512x1024 .f32) (g : Vec Ideal S1x1024 .f32) (w : Vec Ideal S1024x512 .bf16) (r : Fin 512) (d : Fin 512) :
    k0_pay6 (F := Ideal) x g w (ix2 r d) = ∑ k : Fin 1024, Cert.Spec.rms (fun j => x (ix2 r j)) (fun j => g (ix2 0 j)) k * w (ix2 k d) := by
  unfold Cert.Spec.rms
  pointwise [k0_pay6, k0_pay2]

/-- The same with the piece read out of the weight's block. -/
theorem body_nq (x : Vec Ideal S512x1024 .f32) (g : Vec Ideal S1x1024 .f32) (X : Vec Ideal S1024x3456 .bf16) (r : Fin 512) (d : Fin 512) :
    k0_pay6 (F := Ideal) x g (View.ld X r0_8) (ix2 r d)
      = ∑ k : Fin 1024, Cert.Spec.rms (fun j => x (ix2 r j)) (fun j => g (ix2 0 j)) k * X (ix2 k ⟨2816 + d.val, by omega⟩) :=
  (pay_nq x g _ r d).trans (Finset.sum_congr rfl fun k _ => congrArg _ (ld_nq X k d))

/-- The entry of the nq array at an index of column `d`. -/
theorem abNq_at (x : Cert.Spec.Mat 17408 1024) (g : Cert.Spec.Row 1024) (w : Cert.Spec.Mat 1024 3360) (i : (⟨2, ![17408, 512]⟩ : Shape).Idx) (d : Fin 512) (h : i 1 = d) :
    Cert.Spec.abNq x g w i = ∑ k : Fin 1024, Cert.Spec.rms (fun j => x (ix2 (i 0) j)) (fun j => g (ix1 j)) k * w (ix2 k ⟨2056 + d.val, by omega⟩) := by
  subst h; rfl

variable (m : (ℓ : Loc nD τ sig) → Buf (Elt Ideal) ℓ)

/-- What grid point `t` stores at `(r, d)` of the nq array is the entry at which it sits. -/
theorem point_nq (c : Dev nD) (t : Fin cfg0.N) (r : Fin 512) (d : Fin 512) :
    (∑ k : Fin 1024, Cert.Spec.rms (fun j => iblk m c 0 t (ix2 r j)) (fun j => iblk m c 1 t (ix2 0 j)) k
        * iblk m c 2 t (ix2 k ⟨2816 + d.val, by omega⟩))
      = Cert.Spec.abNq (m ((c : Thread nD τ).loc main_arg0)) (m ((c : Thread nD τ).loc main_arg1)) (m ((c : Thread nD τ).loc main_arg2)) (((cfg0.win 6).blk t).view.emb (ix2 r d)) := by
  have e1 : (((cfg0.win 6).blk t).view.emb (ix2 r d)) 1 = d := by apply Fin.ext; blk_simp [idx_val t]
  have hx : (fun j => iblk m c 0 t (ix2 r j)) = fun j => m ((c : Thread nD τ).loc main_arg0) (ix2 ((((cfg0.win 6).blk t).view.emb (ix2 r d)) 0) j) := by
    funext j; blk_ext [iblk, V, idx_val t]
  have hg : (fun j => iblk m c 1 t (ix2 0 j)) = fun j => m ((c : Thread nD τ).loc main_arg1) (ix1 j) := by
    funext j; blk_point [iblk, V, idx_val t]
  rw [hx, hg]
  refine Eq.trans ?_ (abNq_at _ _ _ _ d e1).symm
  exact Finset.sum_congr rfl fun k _ => congrArg _ ((blk_w m c t k _).trans (catW_nq _ k d))

/-- The nq array after the run. -/
theorem final_nq (c : Dev nD) : (dats m 0 c).arrAt 6 (cfgs 0).N = Cert.Spec.abNq (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]; frame_out
  idx_vars y
  exact (body_nq _ _ _ y0 y1).trans (point_nq m c t y0 y1)

end Cert.Ab
-- ==== Proof.AbSmall.lean ====
module

public import proofs.«01_k».proof.Proof.AbWeight

@[expose] public section

set_option maxRecDepth 16384
set_option maxHeartbeats 400000

noncomputable section

open Idealize.ShloMosaic Idealize.ShloMosaic.TcCoe Idealize.SL.Sem
open Idealize.ShloMosaic.Pipeline (Dat)

namespace Cert.Ab

open Cert.Kernel4Ideal Cert.Kernel4Ideal.Gen

/-- The piece of the weight's block that the small columns are read from. -/
theorem ld_small (X : Vec Ideal S1024x3456 .bf16) (k : Fin 1024) (d : Fin 128) :
    (View.ld X r0_9 : Vec Ideal S1024x128 .bf16) (ix2 k d) = X (ix2 k ⟨3328 + d.val, by omega⟩) := by
  pointwise

/-- What the body stores at `(r, d)` of the small gates' array. -/
theorem pay_small (x : Vec Ideal S512x1024 .f32) (g : Vec Ideal S1x1024 .f32) (w : Vec Ideal S1024x128 .bf16) (r : Fin 512) (d : Fin 128) :
    k0_pay1 (F := Ideal) (k0_pay2 x g) w (ix2 r d) = ∑ k : Fin 1024, Cert.Spec.rms (fun j => x (ix2 r j)) (fun j => g (ix2 0 j)) k * w (ix2 k d) := by
  unfold Cert.Spec.rms
  pointwise [k0_pay1, k0_pay2]

/-- The same with the piece read out of the weight's block. -/
theorem body_small (x : Vec Ideal S512x1024 .f32) (g : Vec Ideal S1x1024 .f32) (X : Vec Ideal S1024x3456 .bf16) (r : Fin 512) (d : Fin 128) :
    k0_pay1 (F := Ideal) (k0_pay2 x g) (View.ld X r0_9) (ix2 r d)
      = ∑ k : Fin 1024, Cert.Spec.rms (fun j => x (ix2 r j)) (fun j => g (ix2 0 j)) k * X (ix2 k ⟨3328 + d.val, by omega⟩) :=
  (pay_small x g _ r d).trans (Finset.sum_congr rfl fun k _ => congrArg _ (ld_small X k d))

/-- The entry of the small array at an index of column `d`. -/
theorem abSmall_at (x : Cert.Spec.Mat 17408 1024) (g : Cert.Spec.Row 1024) (w : Cert.Spec.Mat 1024 3360) (i : (⟨2, ![17408, 128]⟩ : Shape).Idx) (d : Fin 128) (h : i 1 = d) :
    Cert.Spec.abSmall x g w i = if h : d.val < 8 then ∑ k : Fin 1024, Cert.Spec.rms (fun j => x (ix2 (i 0) j)) (fun j => g (ix1 j)) k * w (ix2 k ⟨1536 + d.val, by omega⟩) else if h' : d.val < 32 then ∑ k : Fin 1024, Cert.Spec.rms (fun j => x (ix2 (i 0) j)) (fun j => g (ix1 j)) k * w (ix2 k ⟨3336 + (d.val - 8), by omega⟩) else 0 := by
  subst h; rfl

variable (m : (ℓ : Loc nD τ sig) → Buf (Elt Ideal) ℓ)

/-- What grid point `t` stores at `(r, d)` of the small array is the entry at which it sits. -/
theorem point_small (c : Dev nD) (t : Fin cfg0.N) (r : Fin 512) (d : Fin 128) :
    (∑ k : Fin 1024, Cert.Spec.rms (fun j => iblk m c 0 t (ix2 r j)) (fun j => iblk m c 1 t (ix2 0 j)) k
        * iblk m c 2 t (ix2 k ⟨3328 + d.val, by omega⟩))
      = Cert.Spec.abSmall (m ((c : Thread nD τ).loc main_arg0)) (m ((c : Thread nD τ).loc main_arg1)) (m ((c : Thread nD τ).loc main_arg2)) (((cfg0.win 7).blk t).view.emb (ix2 r d)) := by
  have e1 : (((cfg0.win 7).blk t).view.emb (ix2 r d)) 1 = d := by apply Fin.ext; blk_simp [idx_val t]
  have hx : (fun j => iblk m c 0 t (ix2 r j)) = fun j => m ((c : Thread nD τ).loc main_arg0) (ix2 ((((cfg0.win 7).blk t).view.emb (ix2 r d)) 0) j) := by
    funext j; blk_ext [iblk, V, idx_val t]
  have hg : (fun j => iblk m c 1 t (ix2 0 j)) = fun j => m ((c : Thread nD τ).loc main_arg1) (ix1 j) := by
    funext j; blk_point [iblk, V, idx_val t]
  rw [hx, hg]
  refine Eq.trans ?_ (abSmall_at _ _ _ _ d e1).symm
  by_cases h : d.val < 8
  · rw [dif_pos h]; exact Finset.sum_congr rfl fun k _ => congrArg _ ((blk_w m c t k _).trans (catW_b _ k d h))
  · rw [dif_neg h]
    by_cases h' : d.val < 32
    · rw [dif_pos h']; exact Finset.sum_congr rfl fun k _ => congrArg _ ((blk_w m c t k _).trans (catW_g _ k d h h'))
    · rw [dif_neg h']
      refine Finset.sum_eq_zero fun k _ => ?_
      exact (congrArg _ ((blk_w m c t k _).trans (catW_0 _ k d h'))).trans (mul_zero _)

/-- The small array after the run. -/
theorem final_small (c : Dev nD) : (dats m 0 c).arrAt 7 (cfgs 0).N = Cert.Spec.abSmall (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]; frame_out
  idx_vars y
  exact (body_small _ _ _ y0 y1).trans (point_small m c t y0 y1)

end Cert.Ab
-- ==== Proof.NormRef.lean ====
module

public import proofs.«01_k».proof.Proof.Gen.Reference5Ideal.Run
public import proofs.«01_k».proof.Proof.Spec

@[expose] public section

set_option maxRecDepth 16384
set_option maxHeartbeats 400000

noncomputable section

open Idealize.ShloMosaic Idealize.ShloMosaic.TcCoe Idealize.SL.Sem

namespace Cert.Norm

open Cert.Reference5Ideal Cert.Reference5Ideal.Gen

/-- The reference's array, from its arguments, is the normed rows. -/
theorem ref (x : FVec Ideal S17408x1024 .f32) (g : FVec Ideal S1024 .f32) :
    mulf (mulf x (broadcastInDim S17408x1024 ![0, 1] bcast_S17408x1_S17408x1024_0_1 (Host.rsqrt (addf (Host.divf (broadcastInDim S17408x1 ![0] bcast_S17408_S17408x1_0 (Host.reduceAdd (mulf x x) (constant S_ .f32 0x00000000#32) reducesTo_S17408x1024_S17408_d1 h_S_)) (broadcastInDim S17408x1 ![] bcast_S_S17408x1 (constant S_ .f32 0x44800000#32))) (broadcastInDim S17408x1 ![] bcast_S_S17408x1 (constant S_ .f32 0x358637BD#32)))))) (broadcastInDim S17408x1024 ![0, 1] bcast_S1x1024_S17408x1024_0_1 (broadcastInDim S1x1024 ![1] bcast_S1024_S1x1024_1 g)) = Cert.Spec.normed x g := by
  funext i
  change S17408x1024.Idx at i
  idx_vars i
  unfold Cert.Spec.normed Cert.Spec.rms
  pointwise

end Cert.Norm
-- ==== Proof.NormValue.lean ====
module

public import proofs.«01_k».proof.Proof.Gen.Kernel5Ideal.Value
public import proofs.«01_k».proof.Proof.Spec

@[expose] public section

set_option maxRecDepth 16384
set_option maxHeartbeats 400000

noncomputable section

open Idealize.ShloMosaic Idealize.ShloMosaic.TcCoe Idealize.SL.Sem
open Idealize.ShloMosaic.Pipeline (Dat)

namespace Cert.Norm

open Cert.Kernel5Ideal Cert.Kernel5Ideal.Gen

/-- What the body stores at `(r, d)`: entry `d` of the block's normed row `r`. -/
theorem body (x : Vec Ideal S512x1024 .f32) (g : Vec Ideal S1x1024 .f32) (r : Fin 512) (d : Fin 1024) :
    k0_pay1 (F := Ideal) x g (ix2 r d) = Cert.Spec.rms (fun j => x (ix2 r j)) (fun j => g (ix2 0 j)) d := by
  unfold Cert.Spec.rms
  pointwise [k0_pay1]

/-- Every window's block index at every grid point. -/
theorem idx_val : ∀ t : Fin cfg0.N, win0_0.index t = ![t.val, 0]
    ∧ win0_1.index t = ![0, 0]
    ∧ win0_2.index t = ![t.val, 0] :=
  (by decide +kernel : ∀ t : Fin grid0.N, _)

variable (m : (ℓ : Loc nD τ sig) → Buf (Elt Ideal) ℓ)

/-- What grid point `t` stores at `(r, d)` is the entry of the normed rows at which it sits. -/
theorem point (c : Dev nD) (t : Fin cfg0.N) (r : Fin 512) (d : Fin 1024) :
    Cert.Spec.rms (fun j => iblk m c 0 t (ix2 r j)) (fun j => iblk m c 1 t (ix2 0 j)) d
      = Cert.Spec.normed (m ((c : Thread nD τ).loc main_arg0)) (m ((c : Thread nD τ).loc main_arg1))
          (((cfg0.win 2).blk t).view.emb (ix2 r d)) := by
  have e1 : (((cfg0.win 2).blk t).view.emb (ix2 r d)) 1 = d := by apply Fin.ext; blk_simp [idx_val t]
  unfold Cert.Spec.normed
  rw [e1]
  congr 1
  · funext j; blk_ext [iblk, V, idx_val t]
  · funext j; blk_point [iblk, V, idx_val t]

/-- The result array after the run. -/
theorem final (c : Dev nD) : (dats m 0 c).arrAt 2 (cfgs 0).N
    = Cert.Spec.normed (m ((c : Thread nD τ).loc main_arg0)) (m ((c : Thread nD τ).loc main_arg1)) := by
  refine (dats m 0 c).arrAt_eq_of_covers 2 _ (by decide +kernel) fun t hf y => ?_
  blk_simp
  rw [after0_2]; frame_out
  idx_vars y
  exact (body _ _ y0 y1).trans (point m c t y0 y1)

end Cert.Norm
-- ==== Proof.GluRef.lean ====
module

public import proofs.«01_k».proof.Proof.Gen.Reference6Ideal.Run
public import proofs.«01_k».proof.Proof.Spec

@[expose] public section

set_option maxRecDepth 16384
set_option maxHeartbeats 400000

noncomputable section

open Idealize.ShloMosaic Idealize.ShloMosaic.TcCoe Idealize.SL.Sem

namespace Cert.Glu

open Cert.Reference6Ideal Cert.Reference6Ideal.Gen

/-- The mixer's rows, the samples' after the prompts'. -/
def rY (yp : FVec Ideal S16384x1024 .bf16) (ys : FVec Ideal S1024x1024 .bf16) : FVec Ideal S17408x1024 .f32 :=
  extf .f32 (concatenate S17408x1024 0 [⟨S16384x1024, yp⟩, ⟨S1024x1024, ys⟩] concatenates_S16384x1024_S1024x1024_S17408x1024_d0) bitsLt_bf16_f32

/-- The rows times the gated weight. -/
def rZ (y : FVec Ideal S17408x1024 .f32) (wg : FVec Ideal S1024x2048 .f32) : FVec Ideal S17408x2048 .f32 :=
  Host.dotGeneral dot_S17408x1024_S1024x2048_S17408x2048_1_0_0_1_n_n none (y) wg

/-- The left half gated by the right half. -/
def rG (z : FVec Ideal S17408x2048 .f32) : FVec Ideal S17408x1024 .f32 :=
  mulf (extractStridedSlice S17408x1024 ![0, 0] (z) slices_S17408x2048_S17408x1024_0_0) (Host.divf (broadcastInDim S17408x1024 ![] bcast_S_S17408x1024 (constant S_ .f32 0x3F800000#32)) (addf (broadcastInDim S17408x1024 ![] bcast_S_S17408x1024 (constant S_ .f32 0x3F800000#32)) (Host.exp (Host.negf (extractStridedSlice S17408x1024 ![0, 1024] (z) slices_S17408x2048_S17408x1024_0_1024)))))

/-- The residual rows plus the gated rows times the output weight. -/
def rO (x : FVec Ideal S17408x1024 .f32) (h : FVec Ideal S17408x1024 .f32) (w : FVec Ideal S1024x1024 .f32) : FVec Ideal S17408x1024 .f32 :=
  addf x (Host.dotGeneral dot_S17408x1024_S1024x1024_S17408x1024_1_0_0_1_n_n none h w)

/-- Entry `(r, k)` of the mixer's rows. -/
theorem rY_apply (yp : FVec Ideal S16384x1024 .bf16) (ys : FVec Ideal S1024x1024 .bf16) (r : Fin 17408) (k : Fin 1024) : rY yp ys (ix2 r k) = Cert.Spec.rows (fun r k => yp (ix2 r k)) (fun r k => ys (ix2 r k)) r k := by
  unfold Cert.Spec.rows
  pointwise [rY]

/-- Entry `(r, f)` of the product. -/
theorem rZ_apply (y) (wg) (r : Fin 17408) (f : Fin 2048) : rZ y wg (ix2 r f) = ∑ k : Fin 1024, y (ix2 r k) * wg (ix2 k f) := by
  pointwise [rZ]

/-- Entry `(r, f)` of the gated rows. -/
theorem rG_apply (z) (r : Fin 17408) (f : Fin 1024) : rG z (ix2 r f) = Cert.Spec.gated (z (ix2 r ⟨f.val, by omega⟩)) (z (ix2 r ⟨1024 + f.val, by omega⟩)) := by
  unfold Cert.Spec.gated
  pointwise [rG]

/-- Entry `(r, d)` of the result. -/
theorem rO_apply (x h) (w) (r : Fin 17408) (d : Fin 1024) : rO x h w (ix2 r d) = x (ix2 r d) + ∑ k : Fin 1024, h (ix2 r k) * w (ix2 k d) := by
  pointwise [rO]

/-- The reference's array, stage by stage, is the odd layers' output. -/
theorem stages (yp : FVec Ideal S16384x1024 .bf16) (ys : FVec Ideal S1024x1024 .bf16) (wg : FVec Ideal S1024x2048 .f32) (wo : FVec Ideal S1024x1024 .f32) (x : FVec Ideal S17408x1024 .f32) :
    rO x (rG (rZ (rY yp ys) wg)) wo = Cert.Spec.glu yp ys wg wo x := by
  funext i
  change S17408x1024.Idx at i
  idx_vars i
  simp only [rO_apply, rG_apply, rZ_apply, rY_apply]
  rfl

/-- The same with the stages spelled out, as the reference's run states it. -/
theorem ref (yp : FVec Ideal S16384x1024 .bf16) (ys : FVec Ideal S1024x1024 .bf16) (wg : FVec Ideal S1024x2048 .f32) (wo : FVec Ideal S1024x1024 .f32) (x : FVec Ideal S17408x1024 .f32) :
    addf x (Host.dotGeneral dot_S17408x1024_S1024x1024_S17408x1024_1_0_0_1_n_n none (mulf (extractStridedSlice S17408x1024 ![0, 0] (Host.dotGeneral dot_S17408x1024_S1024x2048_S17408x2048_1_0_0_1_n_n none (extf .f32 (concatenate S17408x1024 0 [⟨S16384x1024, yp⟩, ⟨S1024x1024, ys⟩] concatenates_S16384x1024_S1024x1024_S17408x1024_d0) bitsLt_bf16_f32) wg) slices_S17408x2048_S17408x1024_0_0) (Host.divf (broadcastInDim S17408x1024 ![] bcast_S_S17408x1024 (constant S_ .f32 0x3F800000#32)) (addf (broadcastInDim S17408x1024 ![] bcast_S_S17408x1024 (constant S_ .f32 0x3F800000#32)) (Host.exp (Host.negf (extractStridedSlice S17408x1024 ![0, 1024] (Host.dotGeneral dot_S17408x1024_S1024x2048_S17408x2048_1_0_0_1_n_n none (extf .f32 (concatenate S17408x1024 0 [⟨S16384x1024, yp⟩, ⟨S1024x1024, ys⟩] concatenates_S16384x1024_S1024x1024_S17408x1024_d0) bitsLt_bf16_f32) wg) slices_S17408x2048_S17408x1024_0_1024)))))) wo) = Cert.Spec.glu yp ys wg wo x :=
  stages yp ys wg wo x

end Cert.Glu
-- ==== Proof.GluBody.lean ====
module

public import proofs.«01_k».proof.Proof.Gen.Kernel6Ideal.Value
public import proofs.«01_k».proof.Proof.Spec

@[expose] public section

set_option maxRecDepth 16384
set_option maxHeartbeats 400000

noncomputable section

open Idealize.ShloMosaic Idealize.ShloMosaic.TcCoe Idealize.SL.Sem
open Idealize.ShloMosaic.Pipeline (Dat)

namespace Cert.Glu

open Cert.Kernel6Ideal Cert.Kernel6Ideal.Gen

/-- The gated entry as the kernel spells it. -/
def act (a b : EReal) : EReal :=
  a * Ideal.div (Ideal.ofBits .f32 0x3F800000#32) (Ideal.ofBits .f32 0x3F800000#32 + Ideal.exp (Ideal.ofBits .f32 0x00000000#32 - b))

/-- Entry `(r, f)` of the gated products of one tile of 256 columns. -/
def hid (h : FVec Ideal S1024x1024 .bf16) (wa wb : FVec Ideal S1024x256 .bf16) (r : Fin 1024) (f : Fin 256) : EReal :=
  act (∑ k : Fin 1024, h (ix2 r k) * wa (ix2 k f)) (∑ k : Fin 1024, h (ix2 r k) * wb (ix2 k f))

/-- Entry `(r, d)` of the share of one tile of 256 columns. -/
def term (h : FVec Ideal S1024x1024 .bf16) (wa wb : FVec Ideal S1024x256 .bf16) (wd : FVec Ideal S256x1024 .bf16) (r d : Fin 1024) : EReal :=
  ∑ f : Fin 256, hid h wa wb r f * wd (ix2 f d)

variable (h : FVec Ideal S1024x1024 .bf16) (acc : FVec Ideal S1024x1024 .f32) (r d : Fin 1024)

/-- A prompt's grid point keeps its rows as they are. -/
theorem pay2_eq : k0_pay2 (F := Ideal) h = h := by
  funext i; idx_vars i; pointwise [k0_pay2]

/-- A sample's grid point keeps its rows as they are. -/
theorem pay3_eq : k0_pay3 (F := Ideal) h = h := by
  funext i; idx_vars i; pointwise [k0_pay3]

/-- The first tile. -/
theorem pay4_apply (wa wb : FVec Ideal S1024x256 .bf16) (wd : FVec Ideal S256x1024 .bf16) :
    k0_pay4 (F := Ideal) h wa wb wd (ix2 r d) = term h wa wb wd r d := by
  unfold term hid act
  pointwise [k0_pay4]

/-- The second and third tiles. -/
theorem pay8_apply (wa wb wa' wb' : FVec Ideal S1024x256 .bf16) (wd wd' : FVec Ideal S256x1024 .bf16) :
    k0_pay8 (F := Ideal) h acc (k0_pay5 h wa) (k0_pay6 h wb) (k0_pay7) wd wa' wb' wd' (ix2 r d)
      = acc (ix2 r d) + term h wa wb wd r d + term h wa' wb' wd' r d := by
  unfold term hid act
  pointwise [k0_pay8, k0_pay5, k0_pay6, k0_pay7]

/-- The fourth tile and the residual. -/
theorem pay1_apply (wa wb : FVec Ideal S1024x256 .bf16) (wd : FVec Ideal S256x1024 .bf16) (x : FVec Ideal S1024x1024 .f32) :
    k0_pay1 (F := Ideal) acc (k0_pay9 h wa) (k0_pay10 h wb) wd x (ix2 r d)
      = x (ix2 r d) + Ideal.ofBits .f32 0x3F800000#32 * (acc (ix2 r d) + term h wa wb wd r d) := by
  unfold term hid act
  pointwise [k0_pay1, k0_pay9, k0_pay10]

end Cert.Glu
-- ==== Proof.GluValue.lean ====
module

public import proofs.«01_k».proof.Proof.GluBody

@[expose] public section

set_option maxRecDepth 16384
set_option maxHeartbeats 400000

noncomputable section

open Idealize.ShloMosaic Idealize.ShloMosaic.TcCoe Idealize.SL.Sem
open Idealize.ShloMosaic.Pipeline (Dat)

namespace Cert.Glu

open Cert.Kernel6Ideal Cert.Kernel6Ideal.Gen

/-- The kernel's gated entry is the specification's. -/
theorem act_eq (a b : EReal) : act a b = Cert.Spec.gated a b := by
  have z : Ideal.ofBits .f32 0x00000000#32 = 0 := by simp [Ideal.ofBits, Ideal.ieee]
  unfold act Cert.Spec.gated
  rw [z, zero_sub]

/-- The scale of the result is one. -/
theorem one_bits : Ideal.ofBits .f32 0x3F800000#32 = 1 := by
  simp [Ideal.ofBits, Ideal.ieee]
  rw [← EReal.coe_mul]
  norm_num

/-- A sum over 1024 columns, four tiles at a time. -/
theorem sum_tiles (F : Fin 1024 → EReal) : ∑ f, F f = (∑ f : Fin 256, F ⟨0 + f.val, by omega⟩) + (∑ f : Fin 256, F ⟨256 + f.val, by omega⟩)
    + (∑ f : Fin 256, F ⟨512 + f.val, by omega⟩) + (∑ f : Fin 256, F ⟨768 + f.val, by omega⟩) := by
  rw [Fin.sum_univ_two_halves (N := 1024) 768 256 rfl]
  rw [Fin.sum_univ_two_halves (N := 768) 512 256 rfl]
  rw [Fin.sum_univ_two_halves (N := 512) 256 256 rfl]
  simp only [Nat.zero_add]

/-- Tile 0 of the columns of a weight. -/
theorem ldc0 (K : Vec Ideal S1024x1024 .bf16) (k : Fin 1024) (f : Fin 256) : (View.ld K (Rect.unit ![0, 0] ![1024, 256] inb_S1024x1024_S1024x256_0_0) : Vec Ideal S1024x256 .bf16) (ix2 k f) = K (ix2 k ⟨0 + f.val, by omega⟩) := by
  pointwise

/-- Tile 0 of the rows of a weight. -/
theorem ldr0 (K : Vec Ideal S1024x1024 .bf16) (d : Fin 1024) (f : Fin 256) : (View.ld K (Rect.unit ![0, 0] ![256, 1024] inb_S1024x1024_S256x1024_0_0) : Vec Ideal S256x1024 .bf16) (ix2 f d) = K (ix2 ⟨0 + f.val, by omega⟩ d) := by
  pointwise

/-- Tile 1 of the columns of a weight. -/
theorem ldc1 (K : Vec Ideal S1024x1024 .bf16) (k : Fin 1024) (f : Fin 256) : (View.ld K (Rect.unit ![0, 256] ![1024, 256] inb_S1024x1024_S1024x256_0_256) : Vec Ideal S1024x256 .bf16) (ix2 k f) = K (ix2 k ⟨256 + f.val, by omega⟩) := by
  pointwise

/-- Tile 1 of the rows of a weight. -/
theorem ldr1 (K : Vec Ideal S1024x1024 .bf16) (d : Fin 1024) (f : Fin 256) : (View.ld K (Rect.unit ![256, 0] ![256, 1024] inb_S1024x1024_S256x1024_256_0) : Vec Ideal S256x1024 .bf16) (ix2 f d) = K (ix2 ⟨256 + f.val, by omega⟩ d) := by
  pointwise

/-- Tile 2 of the columns of a weight. -/
theorem ldc2 (K : Vec Ideal S1024x1024 .bf16) (k : Fin 1024) (f : Fin 256) : (View.ld K (Rect.unit ![0, 512] ![1024, 256] inb_S1024x1024_S1024x256_0_512) : Vec Ideal S1024x256 .bf16) (ix2 k f) = K (ix2 k ⟨512 + f.val, by omega⟩) := by
  pointwise

/-- Tile 2 of the rows of a weight. -/
theorem ldr2 (K : Vec Ideal S1024x1024 .bf16) (d : Fin 1024) (f : Fin 256) : (View.ld K (Rect.unit ![512, 0] ![256, 1024] inb_S1024x1024_S256x1024_512_0) : Vec Ideal S256x1024 .bf16) (ix2 f d) = K (ix2 ⟨512 + f.val, by omega⟩ d) := by
  pointwise

/-- Tile 3 of the columns of a weight. -/
theorem ldc3 (K : Vec Ideal S1024x1024 .bf16) (k : Fin 1024) (f : Fin 256) : (View.ld K (Rect.unit ![0, 768] ![1024, 256] inb_S1024x1024_S1024x256_0_768) : Vec Ideal S1024x256 .bf16) (ix2 k f) = K (ix2 k ⟨768 + f.val, by omega⟩) := by
  pointwise

/-- Tile 3 of the rows of a weight. -/
theorem ldr3 (K : Vec Ideal S1024x1024 .bf16) (d : Fin 1024) (f : Fin 256) : (View.ld K (Rect.unit ![768, 0] ![256, 1024] inb_S1024x1024_S256x1024_768_0) : Vec Ideal S256x1024 .bf16) (ix2 f d) = K (ix2 ⟨768 + f.val, by omega⟩ d) := by
  pointwise

/-- The share of one tile from the whole weights. -/
theorem term_eq (y : Fin 1024 → EReal) (A B D : FVec Ideal S1024x1024 .bf16)
    (h : FVec Ideal S1024x1024 .bf16) (wa wb : FVec Ideal S1024x256 .bf16) (wd : FVec Ideal S256x1024 .bf16) (r d : Fin 1024) (o : ℕ) (ho : o + 256 ≤ 1024)
    (hh : ∀ k, h (ix2 r k) = y k)
    (ha : ∀ (k : Fin 1024) (f : Fin 256), wa (ix2 k f) = A (ix2 k ⟨o + f.val, by omega⟩))
    (hb : ∀ (k : Fin 1024) (f : Fin 256), wb (ix2 k f) = B (ix2 k ⟨o + f.val, by omega⟩))
    (hd : ∀ f : Fin 256, wd (ix2 f d) = D (ix2 ⟨o + f.val, by omega⟩ d)) :
    term h wa wb wd r d = ∑ f : Fin 256,
      Cert.Spec.gated (∑ k : Fin 1024, y k * A (ix2 k ⟨o + f.val, by omega⟩)) (∑ k : Fin 1024, y k * B (ix2 k ⟨o + f.val, by omega⟩))
        * D (ix2 ⟨o + f.val, by omega⟩ d) := by
  unfold term hid
  simp only [hh, ha, hb, hd, act_eq]

/-- What a grid point computes from its rows `h`, the whole weights and the residual rows. -/
theorem body (h : FVec Ideal S1024x1024 .bf16) (A B D : Vec Ideal S1024x1024 .bf16) (x : FVec Ideal S1024x1024 .f32) (r d : Fin 1024) :
    k0_pay1 (F := Ideal) (k0_pay8 h (k0_pay4 h (View.ld A (Rect.unit ![0, 0] ![1024, 256] inb_S1024x1024_S1024x256_0_0) : Vec Ideal S1024x256 .bf16) (View.ld B (Rect.unit ![0, 0] ![1024, 256] inb_S1024x1024_S1024x256_0_0) : Vec Ideal S1024x256 .bf16) (View.ld D (Rect.unit ![0, 0] ![256, 1024] inb_S1024x1024_S256x1024_0_0) : Vec Ideal S256x1024 .bf16)) (k0_pay5 h (View.ld A (Rect.unit ![0, 256] ![1024, 256] inb_S1024x1024_S1024x256_0_256) : Vec Ideal S1024x256 .bf16)) (k0_pay6 h (View.ld B (Rect.unit ![0, 256] ![1024, 256] inb_S1024x1024_S1024x256_0_256) : Vec Ideal S1024x256 .bf16)) k0_pay7 (View.ld D (Rect.unit ![256, 0] ![256, 1024] inb_S1024x1024_S256x1024_256_0) : Vec Ideal S256x1024 .bf16) (View.ld A (Rect.unit ![0, 512] ![1024, 256] inb_S1024x1024_S1024x256_0_512) : Vec Ideal S1024x256 .bf16) (View.ld B (Rect.unit ![0, 512] ![1024, 256] inb_S1024x1024_S1024x256_0_512) : Vec Ideal S1024x256 .bf16) (View.ld D (Rect.unit ![512, 0] ![256, 1024] inb_S1024x1024_S256x1024_512_0) : Vec Ideal S256x1024 .bf16)) (k0_pay9 h (View.ld A (Rect.unit ![0, 768] ![1024, 256] inb_S1024x1024_S1024x256_0_768) : Vec Ideal S1024x256 .bf16)) (k0_pay10 h (View.ld B (Rect.unit ![0, 768] ![1024, 256] inb_S1024x1024_S1024x256_0_768) : Vec Ideal S1024x256 .bf16)) (View.ld D (Rect.unit ![768, 0] ![256, 1024] inb_S1024x1024_S256x1024_768_0) : Vec Ideal S256x1024 .bf16) x (ix2 r d)
      = x (ix2 r d) + ∑ f : Fin 1024, Cert.Spec.gated (∑ k : Fin 1024, h (ix2 r k) * A (ix2 k f)) (∑ k : Fin 1024, h (ix2 r k) * B (ix2 k f)) * D (ix2 f d) := by
  rw [pay1_apply, pay8_apply, pay4_apply, one_bits, one_mul, sum_tiles]
  rw [term_eq (fun k => h (ix2 r k)) A B D h (View.ld A (Rect.unit ![0, 0] ![1024, 256] inb_S1024x1024_S1024x256_0_0) : Vec Ideal S1024x256 .bf16) (View.ld B (Rect.unit ![0, 0] ![1024, 256] inb_S1024x1024_S1024x256_0_0) : Vec Ideal S1024x256 .bf16) (View.ld D (Rect.unit ![0, 0] ![256, 1024] inb_S1024x1024_S256x1024_0_0) : Vec Ideal S256x1024 .bf16) r d 0 (by omega) (fun _ => rfl) (ldc0 A) (ldc0 B) (ldr0 D d)]
  rw [term_eq (fun k => h (ix2 r k)) A B D h (View.ld A (Rect.unit ![0, 256] ![1024, 256] inb_S1024x1024_S1024x256_0_256) : Vec Ideal S1024x256 .bf16) (View.ld B (Rect.unit ![0, 256] ![1024, 256] inb_S1024x1024_S1024x256_0_256) : Vec Ideal S1024x256 .bf16) (View.ld D (Rect.unit ![256, 0] ![256, 1024] inb_S1024x1024_S256x1024_256_0) : Vec Ideal S256x1024 .bf16) r d 256 (by omega) (fun _ => rfl) (ldc1 A) (ldc1 B) (ldr1 D d)]
  rw [term_eq (fun k => h (ix2 r k)) A B D h (View.ld A (Rect.unit ![0, 512] ![1024, 256] inb_S1024x1024_S1024x256_0_512) : Vec Ideal S1024x256 .bf16) (View.ld B (Rect.unit ![0, 512] ![1024, 256] inb_S1024x1024_S1024x256_0_512) : Vec Ideal S1024x256 .bf16) (View.ld D (Rect.unit ![512, 0] ![256, 1024] inb_S1024x1024_S256x1024_512_0) : Vec Ideal S256x1024 .bf16) r d 512 (by omega) (fun _ => rfl) (ldc2 A) (ldc2 B) (ldr2 D d)]
  rw [term_eq (fun k => h (ix2 r k)) A B D h (View.ld A (Rect.unit ![0, 768] ![1024, 256] inb_S1024x1024_S1024x256_0_768) : Vec Ideal S1024x256 .bf16) (View.ld B (Rect.unit ![0, 768] ![1024, 256] inb_S1024x1024_S1024x256_0_768) : Vec Ideal S1024x256 .bf16) (View.ld D (Rect.unit ![768, 0] ![256, 1024] inb_S1024x1024_S256x1024_768_0) : Vec Ideal S256x1024 .bf16) r d 768 (by omega) (fun _ => rfl) (ldc3 A) (ldc3 B) (ldr3 D d)]

/-- The block indices of the windows on the weights, the residual rows and the result. -/
theorem idx_val : ∀ t : Fin cfg0.N, win0_3.index t = ![0, 0]
    ∧ win0_4.index t = ![0, 0]
    ∧ win0_5.index t = ![0, 0]
    ∧ win0_6.index t = ![t.val, 0]
    ∧ win0_7.index t = ![t.val, 0] :=
  (by decide +kernel : ∀ t : Fin grid0.N, _)

/-- The block index of the prompts' window at a prompt's grid point. -/
theorem idx_p : ∀ t : Fin cfg0.N, t.val < 16 → win0_0.index t = ![t.val, 0] :=
  (by decide +kernel : ∀ t : Fin grid0.N, _)

/-- The block index of the samples' window at a sample's grid point. -/
theorem idx_s : ∀ t : Fin cfg0.N, 16 ≤ t.val → win0_1.index t = ![t.val - 16, 0] :=
  (by decide +kernel : ∀ t : Fin grid0.N, _)

variable (m : (ℓ : Loc nD τ sig) → Buf (Elt Ideal) ℓ)

/-- The mixer rows block of a grid point of the first case, row by row. -/
theorem row0 (c : Dev nD) (t : Fin cfg0.N) (r : Fin 1024) (d : Fin 1024) (ht : t.val < 16) (k : Fin 1024) :
    iblk m c 0 t (ix2 r k) = Cert.Spec.rows (fun r k => m ((c : Thread nD τ).loc main_arg0) (ix2 r k)) (fun r k => m ((c : Thread nD τ).loc main_arg1) (ix2 r k)) ((((cfg0.win 7).blk t).view.emb (ix2 r d)) 0) k := by
  have hv : ((((cfg0.win 7).blk t).view.emb (ix2 r d)) 0).val = t.val * 1024 + r.val := by blk_simp [idx_val t]
  unfold Cert.Spec.rows
  rw [dif_pos (show ((((cfg0.win 7).blk t).view.emb (ix2 r d)) 0).val < 16384 by rw [hv]; omega)]
  blk_ext [iblk, V, idx_val t, idx_p t ht]

/-- The mixer rows block of a grid point of the second case, row by row. -/
theorem row1 (c : Dev nD) (t : Fin cfg0.N) (r : Fin 1024) (d : Fin 1024) (ht : 16 ≤ t.val) (k : Fin 1024) :
    iblk m c 1 t (ix2 r k) = Cert.Spec.rows (fun r k => m ((c : Thread nD τ).loc main_arg0) (ix2 r k)) (fun r k => m ((c : Thread nD τ).loc main_arg1) (ix2 r k)) ((((cfg0.win 7).blk t).view.emb (ix2 r d)) 0) k := by
  have hv : ((((cfg0.win 7).blk t).view.emb (ix2 r d)) 0).val = t.val * 1024 + r.val := by blk_simp [idx_val t]
  unfold Cert.Spec.rows
  rw [dif_neg (show ¬((((cfg0.win 7).blk t).view.emb (ix2 r d)) 0).val < 16384 by rw [hv]; omega)]
  blk_ext [iblk, V, idx_val t, idx_s t ht]

/-- The value half of the gated weight, as its window sees it. -/
theorem wA (c : Dev nD) (t : Fin cfg0.N) (k : Fin 1024) (f : Fin 1024) :
    iblk m c 3 t (ix2 k f) = m ((c : Thread nD τ).loc main_arg3) (ix2 k ⟨f.val, by omega⟩) := by
  blk_point [iblk, V, idx_val t]

/-- The gate half of the gated weight, as its window sees it. -/
theorem wB (c : Dev nD) (t : Fin cfg0.N) (k : Fin 1024) (f : Fin 1024) :
    iblk m c 4 t (ix2 k f) = m ((c : Thread nD τ).loc main_arg3) (ix2 k ⟨1024 + f.val, by omega⟩) := by
  blk_point [iblk, V, idx_val t]

/-- The output weight, as its window sees it. -/
theorem wD (c : Dev nD) (t : Fin cfg0.N) (f : Fin 1024) (d : Fin 1024) :
    iblk m c 5 t (ix2 f d) = m ((c : Thread nD τ).loc main_arg4) (ix2 f d) := by
  blk_point [iblk, V, idx_val t]

/-- What a grid point stores at `(r, d)` is the output entry at which it sits, whichever rows its block holds. -/
theorem point (c : Dev nD) (t : Fin cfg0.N) (r d : Fin 1024) (h : FVec Ideal S1024x1024 .bf16)
    (x : FVec Ideal S1024x1024 .f32) (A B D : FVec Ideal S1024x1024 .bf16)
    (hx : x = iblk m c 6 t) (hA : A = iblk m c 3 t) (hB : B = iblk m c 4 t) (hD : D = iblk m c 5 t)
    (hh : ∀ k, h (ix2 r k) = Cert.Spec.rows (fun r k => m ((c : Thread nD τ).loc main_arg0) (ix2 r k)) (fun r k => m ((c : Thread nD τ).loc main_arg1) (ix2 r k)) ((((cfg0.win 7).blk t).view.emb (ix2 r d)) 0) k) :
    x (ix2 r d) + ∑ f : Fin 1024, Cert.Spec.gated (∑ k : Fin 1024, h (ix2 r k) * A (ix2 k f))
        (∑ k : Fin 1024, h (ix2 r k) * B (ix2 k f)) * D (ix2 f d)
      = Cert.Spec.glu (m ((c : Thread nD τ).loc main_arg0)) (m ((c : Thread nD τ).loc main_arg1)) (m ((c : Thread nD τ).loc main_arg3)) (m ((c : Thread nD τ).loc main_arg4)) (m ((c : Thread nD τ).loc main_arg5)) (((cfg0.win 7).blk t).view.emb (ix2 r d)) := by
  subst hx hA hB hD
  have e1 : (((cfg0.win 7).blk t).view.emb (ix2 r d)) 1 = d := by apply Fin.ext; blk_simp [idx_val t]
  unfold Cert.Spec.glu Cert.Spec.gluRow
  refine congrArg₂ _ ?_ (Finset.sum_congr rfl fun f _ => congrArg₂ _ (congrArg₂ _ (Finset.sum_congr rfl fun k _ => ?_) (Finset.sum_congr rfl fun k _ => ?_)) ?_)
  · blk_ext [iblk, V, idx_val t]
  · exact congrArg₂ _ (hh k) (wA m c t k f)
  · exact congrArg₂ _ (hh k) (wB m c t k f)
  · rw [e1]; exact wD m c t f d

/-- The result array after the run. -/
theorem final (c : Dev nD) : (dats m 0 c).arrAt 7 (cfgs 0).N = Cert.Spec.glu (m ((c : Thread nD τ).loc main_arg0)) (m ((c : Thread nD τ).loc main_arg1)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  by_cases h0 : t.val < 16
  · rw [outsAt0_A m c t h0 (by omega)]
    frame_out
    idx_vars y
    rw [pay2_eq]
    exact (body _ _ _ _ _ y0 y1).trans (point m c t y0 y1 _ _ _ _ _ rfl rfl rfl rfl (row0 m c t y0 y1 h0))
  · rw [outsAt0_B m c t h0 (by have h : t.val < 17 := lt_of_lt_of_eq t.isLt (by decide); omega)]
    frame_out
    idx_vars y
    rw [pay3_eq]
    exact (body _ _ _ _ _ y0 y1).trans (point m c t y0 y1 _ _ _ _ _ rfl rfl rfl rfl (row1 m c t y0 y1 (by omega)))

end Cert.Glu
-- ==== Proof.ProjRef.lean ====
module

public import proofs.«01_k».proof.Proof.Gen.Reference7Ideal.Run
public import proofs.«01_k».proof.Proof.Spec

@[expose] public section

set_option maxRecDepth 16384
set_option maxHeartbeats 400000

noncomputable section

open Idealize.ShloMosaic Idealize.ShloMosaic.TcCoe Idealize.SL.Sem

namespace Cert.Proj

open Cert.Reference7Ideal Cert.Reference7Ideal.Gen

/-- The reference's array, from its arguments, is the normed rows times the weight. -/
theorem ref (x : FVec Ideal S17408x1024 .f32) (g : FVec Ideal S1024 .f32) (w : FVec Ideal S1024x1024 .f32) :
    Host.dotGeneral dot_S17408x1024_S1024x1024_S17408x1024_1_0_0_1_n_n none (mulf (mulf x (broadcastInDim S17408x1024 ![0, 1] bcast_S17408x1_S17408x1024_0_1 (Host.rsqrt (addf (Host.divf (broadcastInDim S17408x1 ![0] bcast_S17408_S17408x1_0 (Host.reduceAdd (mulf x x) (constant S_ .f32 0x00000000#32) reducesTo_S17408x1024_S17408_d1 h_S_)) (broadcastInDim S17408x1 ![] bcast_S_S17408x1 (constant S_ .f32 0x44800000#32))) (broadcastInDim S17408x1 ![] bcast_S_S17408x1 (constant S_ .f32 0x358637BD#32)))))) (broadcastInDim S17408x1024 ![0, 1] bcast_S1x1024_S17408x1024_0_1 (broadcastInDim S1x1024 ![1] bcast_S1024_S1x1024_1 g))) w = Cert.Spec.proj x g w := by
  funext i
  change S17408x1024.Idx at i
  idx_vars i
  unfold Cert.Spec.proj Cert.Spec.projRow Cert.Spec.rms
  pointwise

end Cert.Proj
-- ==== Proof.ProjValue.lean ====
module

public import proofs.«01_k».proof.Proof.Gen.Kernel7Ideal.Value
public import proofs.«01_k».proof.Proof.Spec

@[expose] public section

set_option maxRecDepth 16384
set_option maxHeartbeats 400000

noncomputable section

open Idealize.ShloMosaic Idealize.ShloMosaic.TcCoe Idealize.SL.Sem
open Idealize.ShloMosaic.Pipeline (Dat)

namespace Cert.Proj

open Cert.Kernel7Ideal Cert.Kernel7Ideal.Gen

/-- What the body stores at `(r, d)`: entry `d` of the block's normed row `r` times the weight. -/
theorem body (x : Vec Ideal S512x1024 .f32) (g : Vec Ideal S1x1024 .f32) (w : Vec Ideal S1024x1024 .bf16) (r : Fin 512) (d : Fin 1024) :
    k0_pay1 (F := Ideal) x g w (ix2 r d) = Cert.Spec.projRow (fun j => x (ix2 r j)) (fun j => g (ix2 0 j)) w d := by
  unfold Cert.Spec.projRow Cert.Spec.rms
  pointwise [k0_pay1]

/-- Every window's block index at every grid point. -/
theorem idx_val : ∀ t : Fin cfg0.N, win0_0.index t = ![t.val, 0]
    ∧ win0_1.index t = ![0, 0]
    ∧ win0_2.index t = ![0, 0]
    ∧ win0_3.index t = ![t.val, 0] :=
  (by decide +kernel : ∀ t : Fin grid0.N, _)

variable (m : (ℓ : Loc nD τ sig) → Buf (Elt Ideal) ℓ)

/-- What grid point `t` stores at `(r, d)` is the entry of the projection at which it sits. -/
theorem point (c : Dev nD) (t : Fin cfg0.N) (r : Fin 512) (d : Fin 1024) :
    Cert.Spec.projRow (fun j => iblk m c 0 t (ix2 r j)) (fun j => iblk m c 1 t (ix2 0 j)) (iblk m c 2 t) d
      = Cert.Spec.proj (m ((c : Thread nD τ).loc main_arg0)) (m ((c : Thread nD τ).loc main_arg1))
          (m ((c : Thread nD τ).loc main_arg2)) (((cfg0.win 3).blk t).view.emb (ix2 r d)) := by
  have e1 : (((cfg0.win 3).blk t).view.emb (ix2 r d)) 1 = d := by apply Fin.ext; blk_simp [idx_val t]
  unfold Cert.Spec.proj
  rw [e1]
  congr 1
  · funext j; blk_ext [iblk, V, idx_val t]
  · funext j; blk_point [iblk, V, idx_val t]
  · funext j
    idx_vars j
    blk_point [iblk, V, idx_val t]

/-- The result array after the run. -/
theorem final (c : Dev nD) : (dats m 0 c).arrAt 3 (cfgs 0).N
    = Cert.Spec.proj (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  idx_vars y
  exact (body _ _ _ y0 y1).trans (point m c t y0 y1)

end Cert.Proj
-- ==== Proof.OutRef.lean ====
module

public import proofs.«01_k».proof.Proof.Gen.Reference8Ideal.Run
public import proofs.«01_k».proof.Proof.Spec

@[expose] public section

set_option maxRecDepth 16384
set_option maxHeartbeats 400000

noncomputable section

open Idealize.ShloMosaic Idealize.ShloMosaic.TcCoe Idealize.SL.Sem

namespace Cert.Outp

open Cert.Reference8Ideal Cert.Reference8Ideal.Gen

/-- The two mixers' rows side by side, the samples' after the prompts'. -/
def rM (ap : FVec Ideal S16384x512 .f32) (az : FVec Ideal S1024x512 .f32) (bp : FVec Ideal S16384x512 .f32) (bs : FVec Ideal S1024x512 .f32) : FVec Ideal S17408x1024 .f32 :=
  concatenate S17408x1024 0 [⟨S16384x1024, (concatenate S16384x1024 1 [⟨S16384x512, ap⟩, ⟨S16384x512, bp⟩] concatenates_S16384x512_S16384x512_S16384x1024_d1)⟩, ⟨S1024x1024, (concatenate S1024x1024 1 [⟨S1024x512, az⟩, ⟨S1024x512, bs⟩] concatenates_S1024x512_S1024x512_S1024x1024_d1)⟩] concatenates_S16384x1024_S1024x1024_S17408x1024_d0

/-- The left half of the mixed rows. -/
theorem rM_left (ap : FVec Ideal S16384x512 .f32) (az : FVec Ideal S1024x512 .f32) (bp : FVec Ideal S16384x512 .f32) (bs : FVec Ideal S1024x512 .f32) (r : Fin 17408) (k : Fin 512) : rM ap az bp bs (ix2 r ⟨k.val, by omega⟩) = Cert.Spec.rows (fun r k => ap (ix2 r k)) (fun r k => az (ix2 r k)) r k := by
  unfold Cert.Spec.rows
  pointwise [rM]

/-- The right half of the mixed rows. -/
theorem rM_right (ap : FVec Ideal S16384x512 .f32) (az : FVec Ideal S1024x512 .f32) (bp : FVec Ideal S16384x512 .f32) (bs : FVec Ideal S1024x512 .f32) (r : Fin 17408) (k : Fin 512) : rM ap az bp bs (ix2 r ⟨512 + k.val, by omega⟩) = Cert.Spec.rows (fun r k => bp (ix2 r k)) (fun r k => bs (ix2 r k)) r k := by
  unfold Cert.Spec.rows
  pointwise [rM]

/-- The residual rows plus a product, entry by entry. -/
theorem rO_apply (x : FVec Ideal S17408x1024 .f32) (h : FVec Ideal S17408x1024 .f32) (w : FVec Ideal S1024x1024 .f32) (r : Fin 17408) (d : Fin 1024) :
    addf x (Host.dotGeneral dot_S17408x1024_S1024x1024_S17408x1024_1_0_0_1_n_n none h w) (ix2 r d)
      = x (ix2 r d) + ∑ k : Fin 1024, h (ix2 r k) * w (ix2 k d) := by
  pointwise

/-- The reference's array, from its arguments, is the even layers' output. -/
theorem ref (ap : FVec Ideal S16384x512 .f32) (az : FVec Ideal S1024x512 .f32) (bp : FVec Ideal S16384x512 .f32) (bs : FVec Ideal S1024x512 .f32) (w : FVec Ideal S1024x1024 .f32) (x : FVec Ideal S17408x1024 .f32) :
    addf x (Host.dotGeneral dot_S17408x1024_S1024x1024_S17408x1024_1_0_0_1_n_n none (concatenate S17408x1024 0 [⟨S16384x1024, (concatenate S16384x1024 1 [⟨S16384x512, ap⟩, ⟨S16384x512, bp⟩] concatenates_S16384x512_S16384x512_S16384x1024_d1)⟩, ⟨S1024x1024, (concatenate S1024x1024 1 [⟨S1024x512, az⟩, ⟨S1024x512, bs⟩] concatenates_S1024x512_S1024x512_S1024x1024_d1)⟩] concatenates_S16384x1024_S1024x1024_S17408x1024_d0) w) = Cert.Spec.outp ap az bp bs w x := by
  funext i
  change S17408x1024.Idx at i
  idx_vars i
  refine (rO_apply x (rM ap az bp bs) w i0 i1).trans ?_
  rw [Fin.sum_univ_two_halves (N := 1024) 512 512 rfl]
  unfold Cert.Spec.outp Cert.Spec.outRow
  refine congrArg _ (congrArg₂ _ (Finset.sum_congr rfl fun k _ => ?_) (Finset.sum_congr rfl fun k _ => ?_))
  · exact congrArg (· * w _) (rM_left ap az bp bs i0 k)
  · exact congrArg (· * w _) (rM_right ap az bp bs i0 k)

end Cert.Outp
-- ==== Proof.OutValue.lean ====
module

public import proofs.«01_k».proof.Proof.Gen.Kernel8Ideal.Value
public import proofs.«01_k».proof.Proof.Spec

@[expose] public section

set_option maxRecDepth 16384
set_option maxHeartbeats 400000

noncomputable section

open Idealize.ShloMosaic Idealize.ShloMosaic.TcCoe Idealize.SL.Sem
open Idealize.ShloMosaic.Pipeline (Dat)

namespace Cert.Outp

open Cert.Kernel8Ideal Cert.Kernel8Ideal.Gen

/-- The block indices of the windows on the weight, the residual rows and the result. -/
theorem idx_val : ∀ t : Fin cfg0.N, win0_2.index t = ![0, 0]
    ∧ win0_5.index t = ![0, 0]
    ∧ win0_6.index t = ![t.val, 0]
    ∧ win0_7.index t = ![t.val, 0] :=
  (by decide +kernel : ∀ t : Fin grid0.N, _)

/-- The block indices of the prompts' windows at a prompt's grid point. -/
theorem idx_p : ∀ t : Fin cfg0.N, t.val < 32 → win0_0.index t = ![t.val, 0] ∧ win0_3.index t = ![t.val, 0] :=
  (by decide +kernel : ∀ t : Fin grid0.N, _)

/-- The block indices of the samples' windows at a sample's grid point. -/
theorem idx_s : ∀ t : Fin cfg0.N, 32 ≤ t.val → win0_1.index t = ![t.val - 32, 0] ∧ win0_4.index t = ![t.val - 32, 0] :=
  (by decide +kernel : ∀ t : Fin grid0.N, _)

/-- What a prompt's grid point computes from its blocks. -/
theorem pay1_apply (x : FVec Ideal S512x1024 .f32) (a b : FVec Ideal S512x512 .f32) (w w' : FVec Ideal S512x1024 .bf16) (r : Fin 512) (d : Fin 1024) :
    k0_pay1 (F := Ideal) x a w b w' (ix2 r d)
      = x (ix2 r d) + ((∑ k : Fin 512, a (ix2 r k) * w (ix2 k d)) + ∑ k : Fin 512, b (ix2 r k) * w' (ix2 k d)) := by
  rw [← add_assoc]
  pointwise [k0_pay1]

/-- What a sample's grid point computes from its blocks. -/
theorem pay2_apply (x : FVec Ideal S512x1024 .f32) (a b : FVec Ideal S512x512 .f32) (w w' : FVec Ideal S512x1024 .bf16) (r : Fin 512) (d : Fin 1024) :
    k0_pay2 (F := Ideal) x a w b w' (ix2 r d)
      = x (ix2 r d) + ((∑ k : Fin 512, a (ix2 r k) * w (ix2 k d)) + ∑ k : Fin 512, b (ix2 r k) * w' (ix2 k d)) := by
  rw [← add_assoc]
  pointwise [k0_pay2]

variable (m : (ℓ : Loc nD τ sig) → Buf (Elt Ideal) ℓ)

/-- The delta rule block of a grid point of the first case, row by row. -/
theorem row0 (c : Dev nD) (t : Fin cfg0.N) (r : Fin 512) (d : Fin 1024) (ht : t.val < 32) (k : Fin 512) :
    iblk m c 0 t (ix2 r k) = Cert.Spec.rows (fun r k => m ((c : Thread nD τ).loc main_arg0) (ix2 r k)) (fun r k => m ((c : Thread nD τ).loc main_arg1) (ix2 r k)) ((((cfg0.win 7).blk t).view.emb (ix2 r d)) 0) k := by
  have hv : ((((cfg0.win 7).blk t).view.emb (ix2 r d)) 0).val = t.val * 512 + r.val := by blk_simp [idx_val t]
  unfold Cert.Spec.rows
  rw [dif_pos (show ((((cfg0.win 7).blk t).view.emb (ix2 r d)) 0).val < 16384 by rw [hv]; omega)]
  blk_ext [iblk, V, idx_val t, idx_p t ht]

/-- The delta rule block of a grid point of the second case, row by row. -/
theorem row1 (c : Dev nD) (t : Fin cfg0.N) (r : Fin 512) (d : Fin 1024) (ht : 32 ≤ t.val) (k : Fin 512) :
    iblk m c 1 t (ix2 r k) = Cert.Spec.rows (fun r k => m ((c : Thread nD τ).loc main_arg0) (ix2 r k)) (fun r k => m ((c : Thread nD τ).loc main_arg1) (ix2 r k)) ((((cfg0.win 7).blk t).view.emb (ix2 r d)) 0) k := by
  have hv : ((((cfg0.win 7).blk t).view.emb (ix2 r d)) 0).val = t.val * 512 + r.val := by blk_simp [idx_val t]
  unfold Cert.Spec.rows
  rw [dif_neg (show ¬((((cfg0.win 7).blk t).view.emb (ix2 r d)) 0).val < 16384 by rw [hv]; omega)]
  blk_ext [iblk, V, idx_val t, idx_s t ht]

/-- The sparse attention block of a grid point of the first case, row by row. -/
theorem row3 (c : Dev nD) (t : Fin cfg0.N) (r : Fin 512) (d : Fin 1024) (ht : t.val < 32) (k : Fin 512) :
    iblk m c 3 t (ix2 r k) = Cert.Spec.rows (fun r k => m ((c : Thread nD τ).loc main_arg2) (ix2 r k)) (fun r k => m ((c : Thread nD τ).loc main_arg3) (ix2 r k)) ((((cfg0.win 7).blk t).view.emb (ix2 r d)) 0) k := by
  have hv : ((((cfg0.win 7).blk t).view.emb (ix2 r d)) 0).val = t.val * 512 + r.val := by blk_simp [idx_val t]
  unfold Cert.Spec.rows
  rw [dif_pos (show ((((cfg0.win 7).blk t).view.emb (ix2 r d)) 0).val < 16384 by rw [hv]; omega)]
  blk_ext [iblk, V, idx_val t, idx_p t ht]

/-- The sparse attention block of a grid point of the second case, row by row. -/
theorem row4 (c : Dev nD) (t : Fin cfg0.N) (r : Fin 512) (d : Fin 1024) (ht : 32 ≤ t.val) (k : Fin 512) :
    iblk m c 4 t (ix2 r k) = Cert.Spec.rows (fun r k => m ((c : Thread nD τ).loc main_arg2) (ix2 r k)) (fun r k => m ((c : Thread nD τ).loc main_arg3) (ix2 r k)) ((((cfg0.win 7).blk t).view.emb (ix2 r d)) 0) k := by
  have hv : ((((cfg0.win 7).blk t).view.emb (ix2 r d)) 0).val = t.val * 512 + r.val := by blk_simp [idx_val t]
  unfold Cert.Spec.rows
  rw [dif_neg (show ¬((((cfg0.win 7).blk t).view.emb (ix2 r d)) 0).val < 16384 by rw [hv]; omega)]
  blk_ext [iblk, V, idx_val t, idx_s t ht]

/-- The upper half of the weight, as its window sees it. -/
theorem wTop (c : Dev nD) (t : Fin cfg0.N) (k : Fin 512) (d : Fin 1024) :
    iblk m c 2 t (ix2 k d) = m ((c : Thread nD τ).loc main_arg4) (ix2 ⟨k.val, by omega⟩ d) := by
  blk_point [iblk, V, idx_val t]

/-- The lower half of the weight, as its window sees it. -/
theorem wBot (c : Dev nD) (t : Fin cfg0.N) (k : Fin 512) (d : Fin 1024) :
    iblk m c 5 t (ix2 k d) = m ((c : Thread nD τ).loc main_arg4) (ix2 ⟨512 + k.val, by omega⟩ d) := by
  blk_point [iblk, V, idx_val t]

/-- What a grid point stores at `(r, d)` is the output entry at which it sits, whichever rows its two blocks hold. -/
theorem point (c : Dev nD) (t : Fin cfg0.N) (r : Fin 512) (d : Fin 1024) (a b : FVec Ideal S512x512 .f32)
    (x : FVec Ideal S512x1024 .f32) (w w' : FVec Ideal S512x1024 .bf16) (hx : x = iblk m c 6 t) (hw : w = iblk m c 2 t) (hw' : w' = iblk m c 5 t)
    (ha : ∀ k, a (ix2 r k) = Cert.Spec.rows (fun r k => m ((c : Thread nD τ).loc main_arg0) (ix2 r k)) (fun r k => m ((c : Thread nD τ).loc main_arg1) (ix2 r k)) ((((cfg0.win 7).blk t).view.emb (ix2 r d)) 0) k)
    (hb : ∀ k, b (ix2 r k) = Cert.Spec.rows (fun r k => m ((c : Thread nD τ).loc main_arg2) (ix2 r k)) (fun r k => m ((c : Thread nD τ).loc main_arg3) (ix2 r k)) ((((cfg0.win 7).blk t).view.emb (ix2 r d)) 0) k) :
    x (ix2 r d) + ((∑ k : Fin 512, a (ix2 r k) * w (ix2 k d))
        + ∑ k : Fin 512, b (ix2 r k) * w' (ix2 k d))
      = Cert.Spec.outp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 7).blk t).view.emb (ix2 r d)) := by
  subst hx hw hw'
  have e1 : (((cfg0.win 7).blk t).view.emb (ix2 r d)) 1 = d := by apply Fin.ext; blk_simp [idx_val t]
  unfold Cert.Spec.outp Cert.Spec.outRow
  refine congrArg₂ _ ?_ (congrArg₂ _ (Finset.sum_congr rfl fun k _ => ?_) (Finset.sum_congr rfl fun k _ => ?_))
  · blk_ext [iblk, V, idx_val t]
  · rw [e1]; exact congrArg₂ _ (ha k) (wTop m c t k d)
  · rw [e1]; exact congrArg₂ _ (hb k) (wBot m c t k d)

/-- The result array after the run. -/
theorem final (c : Dev nD) : (dats m 0 c).arrAt 7 (cfgs 0).N = Cert.Spec.outp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  by_cases h0 : t.val < 32
  · rw [outsAt0_A m c t h0 (by omega)]
    frame_out
    idx_vars y
    exact (pay1_apply _ _ _ _ _ y0 y1).trans (point m c t y0 y1 _ _ _ _ _ rfl rfl rfl (row0 m c t y0 y1 h0) (row3 m c t y0 y1 h0))
  · rw [outsAt0_B m c t h0 (by omega)]
    frame_out
    idx_vars y
    exact (pay2_apply _ _ _ _ _ y0 y1).trans (point m c t y0 y1 _ _ _ _ _ rfl rfl rfl (row1 m c t y0 y1 (by omega)) (row4 m c t y0 y1 (by omega)))

end Cert.Outp
-- ==== Proof.SampleSpec.lean ====
module

public import proofs.«01_k».proof.Proof.Spec

@[expose] public section

set_option maxRecDepth 16384
set_option maxHeartbeats 400000

noncomputable section

open Idealize.ShloMosaic Idealize.ShloMosaic.TcCoe Idealize.SL.Sem

namespace Cert.Spec

/-- The samples' queries: the normed sample rows of the stream times the weight. -/
def qSample (x : Mat 17408 1024) (g : Row 1024) (w : Mat 1024 1024) : Mat 1024 1024 :=
  fun i => projRow (fun j => x (ix2 ⟨16384 + (i 0).val, by have := (i 0).isLt; change (i 0).val < 1024 at this; omega⟩ j)) (fun j => g (ix1 j)) w (i 1)

/-- The stream with the samples' rows times the weight added to its sample rows. -/
def addSample (o : Mat 1024 1024) (w : Mat 1024 1024) (x : Mat 17408 1024) : Mat 17408 1024 :=
  fun i => if h : (i 0).val < 16384 then x i
    else x (ix2 (i 0) (i 1)) + ∑ k : Fin 1024, o (ix2 ⟨(i 0).val - 16384, by have := (i 0).isLt; change (i 0).val < 17408 at this; omega⟩ k) * w (ix2 k (i 1))

end Cert.Spec
-- ==== Proof.QSampleRef.lean ====
module

public import proofs.«01_k».proof.Proof.Gen.Reference9Ideal.Run
public import proofs.«01_k».proof.Proof.SampleSpec

@[expose] public section

set_option maxRecDepth 16384
set_option maxHeartbeats 400000

noncomputable section

open Idealize.ShloMosaic Idealize.ShloMosaic.TcCoe Idealize.SL.Sem

namespace Cert.QSample

open Cert.Reference9Ideal Cert.Reference9Ideal.Gen

/-- The reference's array, from its arguments, is the samples' queries. -/
theorem ref (x : FVec Ideal S17408x1024 .f32) (g : FVec Ideal S1024 .f32) (w : FVec Ideal S1024x1024 .f32) :
    Host.dotGeneral dot_S1024x1024_S1024x1024_S1024x1024_1_0_0_1_n_n none (mulf (mulf (extractStridedSlice S1024x1024 ![16384, 0] x slices_S17408x1024_S1024x1024_16384_0) (broadcastInDim S1024x1024 ![0, 1] bcast_S1024x1_S1024x1024_0_1 (Host.rsqrt (addf (Host.divf (broadcastInDim S1024x1 ![0] bcast_S1024_S1024x1_0 (Host.reduceAdd (mulf (extractStridedSlice S1024x1024 ![16384, 0] x slices_S17408x1024_S1024x1024_16384_0) (extractStridedSlice S1024x1024 ![16384, 0] x slices_S17408x1024_S1024x1024_16384_0)) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x358637BD#32)))))) (broadcastInDim S1024x1024 ![0, 1] bcast_S1x1024_S1024x1024_0_1 (broadcastInDim S1x1024 ![1] bcast_S1024_S1x1024_1 g))) w = Cert.Spec.qSample x g w := by
  funext i
  change S1024x1024.Idx at i
  idx_vars i
  unfold Cert.Spec.qSample Cert.Spec.projRow Cert.Spec.rms
  pointwise

end Cert.QSample
-- ==== Proof.QSampleValue.lean ====
module

public import proofs.«01_k».proof.Proof.Gen.Kernel9Ideal.Value
public import proofs.«01_k».proof.Proof.SampleSpec

@[expose] public section

set_option maxRecDepth 16384
set_option maxHeartbeats 400000

noncomputable section

open Idealize.ShloMosaic Idealize.ShloMosaic.TcCoe Idealize.SL.Sem
open Idealize.ShloMosaic.Pipeline (Dat)

namespace Cert.QSample

open Cert.Kernel9Ideal Cert.Kernel9Ideal.Gen

/-- What the body stores at `(r, d)`: entry `d` of the block's normed row `r` times the weight. -/
theorem body (x : Vec Ideal S512x1024 .f32) (g : Vec Ideal S1x1024 .f32) (w : Vec Ideal S1024x1024 .bf16) (r : Fin 512) (d : Fin 1024) :
    k0_pay1 (F := Ideal) x g w (ix2 r d) = Cert.Spec.projRow (fun j => x (ix2 r j)) (fun j => g (ix2 0 j)) w d := by
  unfold Cert.Spec.projRow Cert.Spec.rms
  pointwise [k0_pay1]

/-- Every window's block index at every grid point. -/
theorem idx_val : ∀ t : Fin cfg0.N, win0_0.index t = ![32 + t.val, 0]
    ∧ win0_1.index t = ![0, 0]
    ∧ win0_2.index t = ![0, 0]
    ∧ win0_3.index t = ![t.val, 0] :=
  (by decide +kernel : ∀ t : Fin grid0.N, _)

variable (m : (ℓ : Loc nD τ sig) → Buf (Elt Ideal) ℓ)

/-- What grid point `t` stores at `(r, d)` is the entry of the queries at which it sits. -/
theorem point (c : Dev nD) (t : Fin cfg0.N) (r : Fin 512) (d : Fin 1024) :
    Cert.Spec.projRow (fun j => iblk m c 0 t (ix2 r j)) (fun j => iblk m c 1 t (ix2 0 j)) (iblk m c 2 t) d
      = Cert.Spec.qSample (m ((c : Thread nD τ).loc main_arg0)) (m ((c : Thread nD τ).loc main_arg1))
          (m ((c : Thread nD τ).loc main_arg2)) (((cfg0.win 3).blk t).view.emb (ix2 r d)) := by
  have e1 : (((cfg0.win 3).blk t).view.emb (ix2 r d)) 1 = d := by apply Fin.ext; blk_simp [idx_val t]
  unfold Cert.Spec.qSample
  rw [e1]
  congr 1
  · funext j; blk_ext [iblk, V, idx_val t]
  · funext j; blk_point [iblk, V, idx_val t]
  · funext j
    idx_vars j
    blk_point [iblk, V, idx_val t]

/-- The result array after the run. -/
theorem final (c : Dev nD) : (dats m 0 c).arrAt 3 (cfgs 0).N
    = Cert.Spec.qSample (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  idx_vars y
  exact (body _ _ _ y0 y1).trans (point m c t y0 y1)

end Cert.QSample
-- ==== Proof.AddSampleRef.lean ====
module

public import proofs.«01_k».proof.Proof.Gen.Reference10Ideal.Run
public import proofs.«01_k».proof.Proof.SampleSpec

@[expose] public section

set_option maxRecDepth 16384
set_option maxHeartbeats 400000

noncomputable section

open Idealize.ShloMosaic Idealize.ShloMosaic.TcCoe Idealize.SL.Sem

namespace Cert.AddSample

open Cert.Reference10Ideal Cert.Reference10Ideal.Gen

/-- The reference's array, from its arguments, is the stream with the samples' product added. -/
theorem ref (o : FVec Ideal S1024x1024 .f32) (w : FVec Ideal S1024x1024 .f32) (x : FVec Ideal S17408x1024 .f32) :
    concatenate S17408x1024 0 [⟨S16384x1024, (extractStridedSlice S16384x1024 ![0, 0] x slices_S17408x1024_S16384x1024_0_0)⟩, ⟨S1024x1024, (addf (extractStridedSlice S1024x1024 ![16384, 0] x slices_S17408x1024_S1024x1024_16384_0) (Host.dotGeneral dot_S1024x1024_S1024x1024_S1024x1024_1_0_0_1_n_n none o w))⟩] concatenates_S16384x1024_S1024x1024_S17408x1024_d0 = Cert.Spec.addSample o w x := by
  funext i
  change S17408x1024.Idx at i
  idx_vars i
  unfold Cert.Spec.addSample
  pointwise
  by_cases h : i0.val < 16384
  · rw [dif_pos h, dif_pos h]
  · rw [dif_neg h, dif_neg h]
    have e : (⟨16384 + (i0.val - 16384), by omega⟩ : Fin 17408) = i0 := Fin.ext (by show 16384 + (i0.val - 16384) = i0.val; omega)
    rw [e]

end Cert.AddSample
-- ==== Proof.AddSampleValue.lean ====
module

public import proofs.«01_k».proof.Proof.Gen.Kernel10Ideal.Value
public import proofs.«01_k».proof.Proof.SampleSpec

@[expose] public section

set_option maxRecDepth 16384
set_option maxHeartbeats 400000

noncomputable section

open Idealize.ShloMosaic Idealize.ShloMosaic.TcCoe Idealize.SL.Sem
open Idealize.ShloMosaic.Pipeline (Dat)

namespace Cert.AddSample

open Cert.Kernel10Ideal Cert.Kernel10Ideal.Gen

/-- What the body stores at `(r, d)`: the stream's entry plus entry `d` of the block's row `r` times the weight. -/
theorem body (x a : Vec Ideal S512x1024 .f32) (w : Vec Ideal S1024x1024 .bf16) (r : Fin 512) (d : Fin 1024) :
    k0_pay1 (F := Ideal) x a w (ix2 r d) = (x : FVec Ideal S512x1024 .f32) (ix2 r d) + ∑ k : Fin 1024, (a : FVec Ideal S512x1024 .f32) (ix2 r k) * (w : FVec Ideal S1024x1024 .bf16) (ix2 k d) := by
  pointwise [k0_pay1]

/-- Every window's block index at every grid point. -/
theorem idx_val : ∀ t : Fin cfg0.N, win0_0.index t = ![t.val, 0]
    ∧ win0_1.index t = ![0, 0]
    ∧ win0_2.index t = ![32 + t.val, 0]
    ∧ win0_3.index t = ![32 + t.val, 0] :=
  (by decide +kernel : ∀ t : Fin grid0.N, _)

variable (m : (ℓ : Loc nD τ sig) → Buf (Elt Ideal) ℓ)

/-- What grid point `t` stores at `(r, d)` is the entry of the stream at which it sits. -/
theorem point (c : Dev nD) (t : Fin cfg0.N) (r : Fin 512) (d : Fin 1024) (x a : FVec Ideal S512x1024 .f32) (w : FVec Ideal S1024x1024 .bf16)
    (ha : a = iblk m c 0 t) (hw : w = iblk m c 1 t) (hx : x = iblk m c 2 t) :
    x (ix2 r d) + ∑ k : Fin 1024, a (ix2 r k) * w (ix2 k d)
      = Cert.Spec.addSample (m ((c : Thread nD τ).loc main_arg0)) (m ((c : Thread nD τ).loc main_arg1)) (m ((c : Thread nD τ).loc main_arg2)) (((cfg0.win 3).blk t).view.emb (ix2 r d)) := by
  subst ha hw hx
  have e0 : ((((cfg0.win 3).blk t).view.emb (ix2 r d)) 0).val = (32 + t.val) * 512 + r.val := by blk_simp [idx_val t]
  have e1 : (((cfg0.win 3).blk t).view.emb (ix2 r d)) 1 = d := by apply Fin.ext; blk_simp [idx_val t]
  have h0 : ¬((((cfg0.win 3).blk t).view.emb (ix2 r d)) 0).val < 16384 := by omega
  unfold Cert.Spec.addSample
  rw [dif_neg h0, e1]
  refine congrArg₂ _ ?_ (Finset.sum_congr rfl fun k _ => congrArg₂ _ ?_ ?_)
  · blk_ext [iblk, V, idx_val t]
  · blk_ext [iblk, V, idx_val t]
  · blk_point [iblk, V, idx_val t]

/-- The result array after the run: the sample rows with the product added, and the other rows of the argument. -/
theorem final (c : Dev nD) : (dats m 0 c).arrAt 3 (cfgs 0).N = Cert.Spec.addSample (m ((c : Thread nD τ).loc main_arg0)) (m ((c : Thread nD τ).loc main_arg1)) (m ((c : Thread nD τ).loc main_arg2)) := by
  refine (dats m 0 c).arrAt_eq_of_coversWhere_of_agree 3 _ (fun β => 32 ≤ β (0 : Fin _)) (by decide +kernel) (fun t hf y => ?_) (fun j hj => ?_)
  · blk_simp
    rw [after0_3]; frame_out
    idx_vars y
    exact (body _ _ _ y0 y1).trans (point m c t y0 y1 _ _ _ rfl rfl rfl)
  · blk_simp [Pipeline.Window.cell_apply] at hj
    have h : (((cfg0.win 3).arr.view.emb j) (0 : Fin 2)).val < 16384 := by
      have : ((cfg0.win 3).arr.view.emb j) (0 : Fin 2) = j (0 : Fin 2) := rfl
      rw [this]; omega
    unfold Cert.Spec.addSample
    rw [dif_pos h]
    change V m c main_v1 _ = _
    entry_read
    rfl

end Cert.AddSample
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.AttnRef
public import proofs.«01_k».proof.Proof.AttnValue
public import proofs.«01_k».proof.Proof.FfnRef
public import proofs.«01_k».proof.Proof.FfnValue
public import proofs.«01_k».proof.Proof.MemKvRef
public import proofs.«01_k».proof.Proof.MemKvValue
public import proofs.«01_k».proof.Proof.AbRef
public import proofs.«01_k».proof.Proof.AbQkv
public import proofs.«01_k».proof.Proof.AbNkv
public import proofs.«01_k».proof.Proof.AbGate
public import proofs.«01_k».proof.Proof.AbNq
public import proofs.«01_k».proof.Proof.AbSmall
public import proofs.«01_k».proof.Proof.NormRef
public import proofs.«01_k».proof.Proof.NormValue
public import proofs.«01_k».proof.Proof.GluRef
public import proofs.«01_k».proof.Proof.GluValue
public import proofs.«01_k».proof.Proof.ProjRef
public import proofs.«01_k».proof.Proof.ProjValue
public import proofs.«01_k».proof.Proof.OutRef
public import proofs.«01_k».proof.Proof.OutValue
public import proofs.«01_k».proof.Proof.QSampleRef
public import proofs.«01_k».proof.Proof.QSampleValue
public import proofs.«01_k».proof.Proof.AddSampleRef
public import proofs.«01_k».proof.Proof.AddSampleValue
public import Idealize.ShloMosaic.Adequacy
public import Idealize.ShloMosaic.Init

@[expose] public section

noncomputable section

namespace Cert.Proof

open Idealize.ShloMosaic Idealize.SL.Sem Cert.Kernel

/-- The cross-attention: from arguments that agree, the idealized kernel and the idealized reference end with the same array. -/
theorem algebraic : Cert.algebraic_KernelIdeal_ReferenceIdeal (hKernelIdeal := Cert.KernelIdeal.Gen.facts) (hReferenceIdeal := Cert.ReferenceIdeal.Gen.facts) := by
  pair_intro
  · run_from Cert.KernelIdeal.Value.run_blocks m g
  · run_from Cert.ReferenceIdeal.Value.run m' g'
    obtain ⟨h0, h1, h2, h3, h4⟩ := hagree c
    rw [Cert.Attn.ref, Cert.Attn.final, h0, h1, h2, h3, h4]

/-- The frame of the cross-attention's reference. -/
theorem reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The feed-forward layer: from arguments that agree, the idealized kernel and the idealized reference end with the same array. -/
theorem algebraic2 : Cert.algebraic_Kernel2Ideal_Reference2Ideal (hKernel2Ideal := Cert.Kernel2Ideal.Gen.facts) (hReference2Ideal := Cert.Reference2Ideal.Gen.facts) := by
  pair_intro
  · run_from Cert.Kernel2Ideal.Value.run_blocks m g
  · run_from Cert.Reference2Ideal.Value.run m' g'
    exact (Cert.Ffn.ref _ _ _ _ _).trans (Cert.Ffn.final m c).symm

/-- The frame of the feed-forward layer's reference. -/
theorem reference2 : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The memory's keys and values: from arguments that agree, the idealized kernel and the idealized reference end with the same array. -/
theorem algebraic3 : Cert.algebraic_Kernel3Ideal_Reference3Ideal (hKernel3Ideal := Cert.Kernel3Ideal.Gen.facts) (hReference3Ideal := Cert.Reference3Ideal.Gen.facts) := by
  pair_intro
  · run_from Cert.Kernel3Ideal.Value.run_blocks m g
  · run_from Cert.Reference3Ideal.Value.run m' g'
    obtain ⟨h0, h1, h2, h3⟩ := hagree c
    rw [Cert.MemKv.ref, Cert.MemKv.final, h0, h1, h2, h3]

/-- The frame of the memory's keys and values's reference. -/
theorem reference3 : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

set_option maxHeartbeats 400000 in
/-- The even layers' input projection: from arguments that agree, the idealized kernel and the idealized reference end with the same arrays. -/
theorem algebraic4 : Cert.algebraic_Kernel4Ideal_Reference4Ideal (hKernel4Ideal := Cert.Kernel4Ideal.Gen.facts) (hReference4Ideal := Cert.Reference4Ideal.Gen.facts) := by
  pair_intro
  · run_from Cert.Kernel4Ideal.Value.run_blocks m g
  · run_from Cert.Reference4Ideal.Value.run m' g'
    · exact (Cert.Ab.ref_qkv _ _ _).trans (Cert.Ab.final_qkv m c).symm
    · obtain ⟨h0, h1, h2⟩ := hagree c
      unfold Cert.Reference4Ideal.Value.res_main_v27
      rw [h0, h1, h2]
      exact (Cert.Ab.ref_nkv _ _ _).trans (Cert.Ab.final_nkv m c).symm
    · exact (Cert.Ab.ref_gate _ _ _).trans (Cert.Ab.final_gate m c).symm
    · exact (Cert.Ab.ref_nq _ _ _).trans (Cert.Ab.final_nq m c).symm
    · obtain ⟨h0, h1, h2⟩ := hagree c
      rw [h2]
      exact (Cert.Ab.ref_small _ _ _).trans (Cert.Ab.final_small m c).symm

/-- The frame of the reference of the even layers' input projection. -/
theorem reference4 : Cert.quiescent_Reference4Ideal (hReference4Ideal := Cert.Reference4Ideal.Gen.facts) := fun m ρ _ =>
  (θ_run Cert.Reference4Ideal.defs _ _).mono (fun r h => ⟨fun c => (h c).2.2.2.2.2, Idealize.ShloMosaic.sem_eq_zero_of_no_sems (by decide) r.2⟩)
    (Cert.Reference4Ideal.Value.run (F := Ideal) m ρ)

/-- The final norm: from arguments that agree, the idealized kernel and the idealized reference end with the same array. -/
theorem algebraic5 : Cert.algebraic_Kernel5Ideal_Reference5Ideal (hKernel5Ideal := Cert.Kernel5Ideal.Gen.facts) (hReference5Ideal := Cert.Reference5Ideal.Gen.facts) := by
  pair_intro
  · run_from Cert.Kernel5Ideal.Value.run_blocks m g
  · run_from Cert.Reference5Ideal.Value.run m' g'
    exact (Cert.Norm.ref _ _).trans (Cert.Norm.final m c).symm

/-- The frame of the reference of the final norm. -/
theorem reference5 : Cert.quiescent_Reference5Ideal (hReference5Ideal := Cert.Reference5Ideal.Gen.facts) := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- The odd layers' gated output: from arguments that agree, the idealized kernel and the idealized reference end with the same array. -/
theorem algebraic6 : Cert.algebraic_Kernel6Ideal_Reference6Ideal (hKernel6Ideal := Cert.Kernel6Ideal.Gen.facts) (hReference6Ideal := Cert.Reference6Ideal.Gen.facts) := by
  pair_intro
  · run_from Cert.Kernel6Ideal.Value.run_blocks m g
  · run_from Cert.Reference6Ideal.Value.run m' g'
    exact (Cert.Glu.ref _ _ _ _ _).trans (Cert.Glu.final m c).symm

/-- The frame of the reference of the odd layers' gated output. -/
theorem reference6 : Cert.quiescent_Reference6Ideal (hReference6Ideal := Cert.Reference6Ideal.Gen.facts) := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- The odd layers' input projection: from arguments that agree, the idealized kernel and the idealized reference end with the same array. -/
theorem algebraic7 : Cert.algebraic_Kernel7Ideal_Reference7Ideal (hKernel7Ideal := Cert.Kernel7Ideal.Gen.facts) (hReference7Ideal := Cert.Reference7Ideal.Gen.facts) := by
  pair_intro
  · run_from Cert.Kernel7Ideal.Value.run_blocks m g
  · run_from Cert.Reference7Ideal.Value.run m' g'
    exact (Cert.Proj.ref _ _ _).trans (Cert.Proj.final m c).symm

/-- The frame of the reference of the odd layers' input projection. -/
theorem reference7 : Cert.quiescent_Reference7Ideal (hReference7Ideal := Cert.Reference7Ideal.Gen.facts) := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

/-- The even layers' output projection: from arguments that agree, the idealized kernel and the idealized reference end with the same array. -/
theorem algebraic8 : Cert.algebraic_Kernel8Ideal_Reference8Ideal (hKernel8Ideal := Cert.Kernel8Ideal.Gen.facts) (hReference8Ideal := Cert.Reference8Ideal.Gen.facts) := by
  pair_intro
  · run_from Cert.Kernel8Ideal.Value.run_blocks m g
  · run_from Cert.Reference8Ideal.Value.run m' g'
    exact (Cert.Outp.ref _ _ _ _ _ _).trans (Cert.Outp.final m c).symm

/-- The frame of the reference of the even layers' output projection. -/
theorem reference8 : Cert.quiescent_Reference8Ideal (hReference8Ideal := Cert.Reference8Ideal.Gen.facts) := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

/-- The samples' queries: from arguments that agree, the idealized kernel and the idealized reference end with the same array. -/
theorem algebraic9 : Cert.algebraic_Kernel9Ideal_Reference9Ideal (hKernel9Ideal := Cert.Kernel9Ideal.Gen.facts) (hReference9Ideal := Cert.Reference9Ideal.Gen.facts) := by
  pair_intro
  · run_from Cert.Kernel9Ideal.Value.run_blocks m g
  · run_from Cert.Reference9Ideal.Value.run m' g'
    exact (Cert.QSample.ref _ _ _).trans (Cert.QSample.final m c).symm

/-- The frame of the reference of the samples' queries. -/
theorem reference9 : Cert.quiescent_Reference9Ideal (hReference9Ideal := Cert.Reference9Ideal.Gen.facts) := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

/-- The samples' output product: from arguments that agree, the idealized kernel and the idealized reference end with the same array. -/
theorem algebraic10 : Cert.algebraic_Kernel10Ideal_Reference10Ideal (hKernel10Ideal := Cert.Kernel10Ideal.Gen.facts) (hReference10Ideal := Cert.Reference10Ideal.Gen.facts) := by
  pair_intro
  · run_from Cert.Kernel10Ideal.Value.run_blocks m g
  · run_from Cert.Reference10Ideal.Value.run m' g'
    obtain ⟨h0, h1, h2⟩ := hagree c
    rw [h2]
    exact (Cert.AddSample.ref _ _ _).trans (Cert.AddSample.final m c).symm

/-- The frame of the reference of the samples' output product. -/
theorem reference10 : Cert.quiescent_Reference10Ideal (hReference10Ideal := Cert.Reference10Ideal.Gen.facts) := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

/-- Every claim. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts,
  fun m ρ _ => Cert.Kernel.Gen.frame m ρ, fun m ρ _ => Cert.KernelIdeal.Gen.frame m ρ, reference,
  fun m ρ _ => Cert.Kernel2.Gen.frame m ρ, fun m ρ _ => Cert.Kernel2Ideal.Gen.frame m ρ, reference2,
  fun m ρ _ => Cert.Kernel3.Gen.frame m ρ, fun m ρ _ => Cert.Kernel3Ideal.Gen.frame m ρ, reference3,
  fun m ρ _ => Cert.Kernel4.Gen.frame m ρ, fun m ρ _ => Cert.Kernel4Ideal.Gen.frame m ρ, reference4,
  fun m ρ _ => Cert.Kernel5.Gen.frame m ρ, fun m ρ _ => Cert.Kernel5Ideal.Gen.frame m ρ, reference5,
  fun m ρ _ => Cert.Kernel6.Gen.frame m ρ, fun m ρ _ => Cert.Kernel6Ideal.Gen.frame m ρ, reference6,
  fun m ρ _ => Cert.Kernel7.Gen.frame m ρ, fun m ρ _ => Cert.Kernel7Ideal.Gen.frame m ρ, reference7,
  fun m ρ _ => Cert.Kernel8.Gen.frame m ρ, fun m ρ _ => Cert.Kernel8Ideal.Gen.frame m ρ, reference8,
  fun m ρ _ => Cert.Kernel9.Gen.frame m ρ, fun m ρ _ => Cert.Kernel9Ideal.Gen.frame m ρ, reference9,
  fun m ρ _ => Cert.Kernel10.Gen.frame m ρ, fun m ρ _ => Cert.Kernel10Ideal.Gen.frame m ρ, reference10,
  trivial, algebraic, trivial, algebraic2, trivial, algebraic3, trivial, algebraic4, trivial, algebraic5, trivial, algebraic6, trivial, algebraic7, trivial, algebraic8, trivial, algebraic9, trivial, algebraic10⟩

end Cert.Proof
